-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_times [hPre_valid_times : Cert.Pre_valid_times.Facts] (m : (ℓ : Loc Cert.KernelIdeal.nD Cert.KernelIdeal.τ Cert.KernelIdeal.sig) → Buf (Elt Ideal) ℓ) : Prop :=
  ∀ c : Dev Cert.KernelIdeal.nD,
    (Cert.Pre_valid_times.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_times [hPre_valid_times : Cert.Pre_valid_times.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_times.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_valid_times [hKernelIdeal : Cert.KernelIdeal.Facts] [hPre_valid_times : Cert.Pre_valid_times.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_times m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_valid_times [hReferenceIdeal : Cert.ReferenceIdeal.Facts] [hPre_valid_times : Cert.Pre_valid_times.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_times m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "base_frequency" .f32 0x3B89421E#32 (((2 * Real.pi) * 1500⁻¹ : ℝ) : EReal)

def algebraic_KernelIdeal_ReferenceIdeal_pre_valid_times [hKernelIdeal : Cert.KernelIdeal.Facts] [hReferenceIdeal : Cert.ReferenceIdeal.Facts] [hPre_valid_times : Cert.Pre_valid_times.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_times m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_v198) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_valid_times : Cert.Pre_valid_times.Facts),
    quiescent_Kernel (hKernel := hKernel)
    ∧ quiescent_KernelIdeal (hKernelIdeal := hKernelIdeal)
    ∧ quiescent_KernelIdeal_pre_valid_times (hKernelIdeal := hKernelIdeal) (hPre_valid_times := hPre_valid_times)
    ∧ quiescent_ReferenceIdeal (hReferenceIdeal := hReferenceIdeal)
    ∧ quiescent_ReferenceIdeal_pre_valid_times (hReferenceIdeal := hReferenceIdeal) (hPre_valid_times := hPre_valid_times)
    ∧ preserves_Kernel_KernelIdeal
    ∧ algebraic_KernelIdeal_ReferenceIdeal_pre_valid_times (hKernelIdeal := hKernelIdeal) (hReferenceIdeal := hReferenceIdeal) (hPre_valid_times := hPre_valid_times)
-- ==== Pre_valid_times.lean ====
abbrev S16x2048x6 : Shape := ⟨3, ![16, 2048, 6]⟩
abbrev S6x64x1 : Shape := ⟨3, ![6, 64, 1]⟩
abbrev S6x16x64 : Shape := ⟨3, ![6, 16, 64]⟩
abbrev S_ : Shape := ⟨0, ![]⟩

class Facts : Prop where
  bcast_S_S16x2048x6 : S_.BroadcastsInDim S16x2048x6 (![] : Fin 0 → Fin S16x2048x6.rank)
  reducesTo_S16x2048x6_S_d0_1_2 : S16x2048x6.ReducesTo [0, 1, 2] S_
  h_S_ : 0 < S_.numel

variable [Facts]

def fn {F : FTy → Type} [FloatOps F] (main_arg0 : FVec F S16x2048x6 .f32) (main_arg1 : FVec F S16x2048x6 .f32) (main_arg2 : FVec F S16x2048x6 .f32) (main_arg3 : FVec F S6x64x1 .f32) (main_arg4 : FVec F S6x16x64 .f32) (main_arg5 : FVec F S6x16x64 .f32) (main_arg6 : FVec F S6x16x64 .f32) (main_arg7 : FVec F S6x16x64 .f32) : IVec S_ 1 :=
  let main_cst : FVec F S_ .f32 := constant S_ .f32 0x00000000#32
  let main_v0 : FVec F S16x2048x6 .f32 := broadcastInDim S16x2048x6 ![] bcast_S_S16x2048x6 main_cst
  let main_v1 : IVec S16x2048x6 1 := cmpf .oeq main_arg2 main_v0
  let main_cst_0 : FVec F S_ .f32 := constant S_ .f32 0x3F800000#32
  let main_v2 : FVec F S16x2048x6 .f32 := broadcastInDim S16x2048x6 ![] bcast_S_S16x2048x6 main_cst_0
  let main_v3 : IVec S16x2048x6 1 := cmpf .oeq main_arg2 main_v2
  let main_cst_1 : FVec F S_ .f32 := constant S_ .f32 0x4A989680#32
  let main_v4 : FVec F S16x2048x6 .f32 := broadcastInDim S16x2048x6 ![] bcast_S_S16x2048x6 main_cst_1
  let main_v5 : IVec S16x2048x6 1 := cmpf .olt main_arg1 main_v4
  let main_v6 : IVec S16x2048x6 1 := andi main_v3 main_v5
  let main_v7 : IVec S16x2048x6 1 := ori main_v1 main_v6
  let main_c : IVec S_ 1 := constantI S_ 1 1#1
  let main_v8 : IVec S_ 1 := (fun x v => Host.reduce IntOp.andi x v reducesTo_S16x2048x6_S_d0_1_2 h_S_) main_v7 main_c
  main_v8
-- ==== Kernel.lean ====
abbrev S16x2048x6 : Shape := ⟨3, ![16, 2048, 6]⟩
abbrev S6x64x1 : Shape := ⟨3, ![6, 64, 1]⟩
abbrev S6x16x64 : Shape := ⟨3, ![6, 16, 64]⟩
abbrev S16x6x2048 : Shape := ⟨3, ![16, 6, 2048]⟩
abbrev S16x12288 : Shape := ⟨2, ![16, 12288]⟩
abbrev S_ : Shape := ⟨0, ![]⟩
abbrev S16x16384 : Shape := ⟨2, ![16, 16384]⟩
abbrev S16x128x128 : Shape := ⟨3, ![16, 128, 128]⟩
abbrev S1x128x128 : Shape := ⟨3, ![1, 128, 128]⟩
abbrev S8x128 : Shape := ⟨2, ![8, 128]⟩
abbrev S128x128 : Shape := ⟨2, ![128, 128]⟩
abbrev S128x128x1 : Shape := ⟨3, ![128, 128, 1]⟩
abbrev S1x128 : Shape := ⟨2, ![1, 128]⟩
abbrev S127x128 : Shape := ⟨2, ![127, 128]⟩
abbrev S2x128 : Shape := ⟨2, ![2, 128]⟩
abbrev S126x128 : Shape := ⟨2, ![126, 128]⟩
abbrev S4x128 : Shape := ⟨2, ![4, 128]⟩
abbrev S124x128 : Shape := ⟨2, ![124, 128]⟩
abbrev S120x128 : Shape := ⟨2, ![120, 128]⟩
abbrev S16x128 : Shape := ⟨2, ![16, 128]⟩
abbrev S112x128 : Shape := ⟨2, ![112, 128]⟩
abbrev S32x128 : Shape := ⟨2, ![32, 128]⟩
abbrev S96x128 : Shape := ⟨2, ![96, 128]⟩
abbrev S64x128 : Shape := ⟨2, ![64, 128]⟩
abbrev S6x32x64 : Shape := ⟨3, ![6, 32, 64]⟩
abbrev S6x32x128 : Shape := ⟨3, ![6, 32, 128]⟩
abbrev S6x128x32 : Shape := ⟨3, ![6, 128, 32]⟩
abbrev S64x8 : Shape := ⟨2, ![64, 8]⟩
abbrev S6x64 : Shape := ⟨2, ![6, 64]⟩
abbrev S64x6 : Shape := ⟨2, ![64, 6]⟩
abbrev S1 : Shape := ⟨1, ![1]⟩
abbrev S16x12x1x1024 : Shape := ⟨4, ![16, 12, 1, 1024]⟩
abbrev S16x12288x64 : Shape := ⟨3, ![16, 12288, 64]⟩
abbrev S1x1x1x1024 : Shape := ⟨4, ![1, 1, 1, 1024]⟩
abbrev S1x1024x64 : Shape := ⟨3, ![1, 1024, 64]⟩
abbrev S1x1024 : Shape := ⟨2, ![1, 1024]⟩
abbrev S32x1024 : Shape := ⟨2, ![32, 1024]⟩
abbrev S128x1024 : Shape := ⟨2, ![128, 1024]⟩
abbrev S1x128x32 : Shape := ⟨3, ![1, 128, 32]⟩
abbrev S128x32 : Shape := ⟨2, ![128, 32]⟩
abbrev S8x1024 : Shape := ⟨2, ![8, 1024]⟩
abbrev S64x1024 : Shape := ⟨2, ![64, 1024]⟩
abbrev S1024x64 : Shape := ⟨2, ![1024, 64]⟩
abbrev S16x12288x1 : Shape := ⟨3, ![16, 12288, 1]⟩

abbrev nBuf : Space → Nat
  | .hbm => 55
  | .vmem => 25
  | .smem => 0
  | _ => 0

abbrev bufTy : (tb : Table) → Fin (tcTables nBuf tb) → BufTy
  | .hbm, ⟨0, _⟩ => ⟨S16x2048x6, .f32⟩
  | .hbm, ⟨1, _⟩ => ⟨S16x2048x6, .f32⟩
  | .hbm, ⟨2, _⟩ => ⟨S16x2048x6, .f32⟩
  | .hbm, ⟨3, _⟩ => ⟨S6x64x1, .f32⟩
  | .hbm, ⟨4, _⟩ => ⟨S6x16x64, .f32⟩
  | .hbm, ⟨5, _⟩ => ⟨S6x16x64, .f32⟩
  | .hbm, ⟨6, _⟩ => ⟨S6x16x64, .f32⟩
  | .hbm, ⟨7, _⟩ => ⟨S6x16x64, .f32⟩
  | .hbm, ⟨8, _⟩ => ⟨S16x6x2048, .f32⟩
  | .hbm, ⟨9, _⟩ => ⟨S16x12288, .f32⟩
  | .hbm, ⟨10, _⟩ => ⟨S16x6x2048, .f32⟩
  | .hbm, ⟨11, _⟩ => ⟨S16x12288, .f32⟩
  | .hbm, ⟨12, _⟩ => ⟨S16x6x2048, .f32⟩
  | .hbm, ⟨13, _⟩ => ⟨S16x12288, .f32⟩
  | .hbm, ⟨14, _⟩ => ⟨S_, .i32⟩
  | .hbm, ⟨15, _⟩ => ⟨S_, .f32⟩
  | .hbm, ⟨16, _⟩ => ⟨S16x16384, .f32⟩
  | .hbm, ⟨17, _⟩ => ⟨S16x128x128, .f32⟩
  | .hbm, ⟨18, _⟩ => ⟨S_, .i32⟩
  | .hbm, ⟨19, _⟩ => ⟨S_, .f32⟩
  | .hbm, ⟨20, _⟩ => ⟨S16x16384, .f32⟩
  | .hbm, ⟨21, _⟩ => ⟨S16x128x128, .f32⟩
  | .hbm, ⟨22, _⟩ => ⟨S_, .i32⟩
  | .hbm, ⟨23, _⟩ => ⟨S_, .f32⟩
  | .hbm, ⟨24, _⟩ => ⟨S16x16384, .f32⟩
  | .hbm, ⟨25, _⟩ => ⟨S16x128x128, .f32⟩
  | .hbm, ⟨26, _⟩ => ⟨S16x128x128, .f32⟩
  | .hbm, ⟨27, _⟩ => ⟨S16x128x128, .f32⟩
  | .hbm, ⟨28, _⟩ => ⟨S16x128x128, .f32⟩
  | .hbm, ⟨29, _⟩ => ⟨S16x128x128, .i32⟩
  | .hbm, ⟨30, _⟩ => ⟨S16x16384, .f32⟩
  | .hbm, ⟨31, _⟩ => ⟨S16x12288, .f32⟩
  | .hbm, ⟨32, _⟩ => ⟨S16x16384, .f32⟩
  | .hbm, ⟨33, _⟩ => ⟨S16x12288, .f32⟩
  | .hbm, ⟨34, _⟩ => ⟨S16x16384, .f32⟩
  | .hbm, ⟨35, _⟩ => ⟨S16x12288, .f32⟩
  | .hbm, ⟨36, _⟩ => ⟨S16x16384, .i32⟩
  | .hbm, ⟨37, _⟩ => ⟨S16x12288, .i32⟩
  | .hbm, ⟨38, _⟩ => ⟨S6x32x64, .f32⟩
  | .hbm, ⟨39, _⟩ => ⟨S6x32x64, .f32⟩
  | .hbm, ⟨40, _⟩ => ⟨S6x32x128, .f32⟩
  | .hbm, ⟨41, _⟩ => ⟨S6x128x32, .f32⟩
  | .hbm, ⟨42, _⟩ => ⟨S_, .f32⟩
  | .hbm, ⟨43, _⟩ => ⟨S64x8, .f32⟩
  | .hbm, ⟨44, _⟩ => ⟨S6x64, .f32⟩
  | .hbm, ⟨45, _⟩ => ⟨S64x6, .f32⟩
  | .hbm, ⟨46, _⟩ => ⟨S_, .i32⟩
  | .hbm, ⟨47, _⟩ => ⟨S1, .i32⟩
  | .hbm, ⟨48, _⟩ => ⟨S64x8, .f32⟩
  | .hbm, ⟨49, _⟩ => ⟨S16x12x1x1024, .f32⟩
  | .hbm, ⟨50, _⟩ => ⟨S16x12x1x1024, .f32⟩
  | .hbm, ⟨51, _⟩ => ⟨S16x12x1x1024, .i32⟩
  | .hbm, ⟨52, _⟩ => ⟨S16x12288x64, .f32⟩
  | .hbm, ⟨53, _⟩ => ⟨S16x12288x1, .f32⟩
  | .hbm, ⟨54, _⟩ => ⟨S16x12288x1, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .i32⟩
  | .local _ .vmem, ⟨13, _⟩ => ⟨S1x128x128, .i32⟩
  | .local _ .vmem, ⟨14, _⟩ => ⟨S8x128, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .i32⟩
  | .local _ .vmem, ⟨20, _⟩ => ⟨S1x1x1x1024, .i32⟩
  | .local _ .vmem, ⟨21, _⟩ => ⟨S6x128x32, .f32⟩
  | .local _ .vmem, ⟨22, _⟩ => ⟨S64x8, .f32⟩
  | .local _ .vmem, ⟨23, _⟩ => ⟨S1x1024x64, .f32⟩
  | .local _ .vmem, ⟨24, _⟩ => ⟨S1x1024x64, .f32⟩
  | _, _ => ⟨S16x2048x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 12], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S6x128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "base_frequency" => some (((2 * Real.pi) * 1500⁻¹ : ℝ) : EReal)
  | _ => none
-- ==== ReferenceIdeal.lean ====
abbrev S16x2048x6 : Shape := ⟨3, ![16, 2048, 6]⟩
abbrev S6x64x1 : Shape := ⟨3, ![6, 64, 1]⟩
abbrev S6x16x64 : Shape := ⟨3, ![6, 16, 64]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S1x16x64 : Shape := ⟨3, ![1, 16, 64]⟩
abbrev S16x64 : Shape := ⟨2, ![16, 64]⟩
abbrev S16x2048x64 : Shape := ⟨3, ![16, 2048, 64]⟩
abbrev S1x64x1 : Shape := ⟨3, ![1, 64, 1]⟩
abbrev S64x1 : Shape := ⟨2, ![64, 1]⟩
abbrev S1x64 : Shape := ⟨2, ![1, 64]⟩
abbrev S16x12288x64 : Shape := ⟨3, ![16, 12288, 64]⟩
abbrev S16x12288x1 : Shape := ⟨3, ![16, 12288, 1]⟩
abbrev S16x12288x64x1 : Shape := ⟨4, ![16, 12288, 64, 1]⟩
abbrev S1 : Shape := ⟨1, ![1]⟩
abbrev S1x1x1x1 : Shape := ⟨4, ![1, 1, 1, 1]⟩
abbrev S1x1x1 : Shape := ⟨3, ![1, 1, 1]⟩
abbrev S16x12288 : Shape := ⟨2, ![16, 12288]⟩

abbrev nBuf : Space → Nat
  | .hbm => 279
  | .vmem => 0
  | .smem => 0
  | _ => 0

abbrev hbmTy0_0 (i : Nat) : BufTy := match i % 128 with
  | 0 => ⟨S16x2048x6, .f32⟩
  | 1 => ⟨S16x2048x6, .f32⟩
  | 2 => ⟨S16x2048x6, .f32⟩
  | 3 => ⟨S6x64x1, .f32⟩
  | 4 => ⟨S6x16x64, .f32⟩
  | 5 => ⟨S6x16x64, .f32⟩
  | 6 => ⟨S6x16x64, .f32⟩
  | 7 => ⟨S6x16x64, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S_, .f32⟩
  | 17 => ⟨S_, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16x2048x1, .f32⟩
  | 25 => ⟨S16x2048x1, .f32⟩
  | 26 => ⟨S16x2048x1, .f32⟩
  | 27 => ⟨S1x1x16, .f32⟩
  | 28 => ⟨S16x2048x16, .f32⟩
  | 29 => ⟨S16x2048x16, .f32⟩
  | 30 => ⟨S16x2048x16, .f32⟩
  | 31 => ⟨S16x2048x16, .f32⟩
  | 32 => ⟨S16x2048x16, .f32⟩
  | 33 => ⟨S1x16x64, .f32⟩
  | 34 => ⟨S16x64, .f32⟩
  | 35 => ⟨S16x2048x64, .f32⟩
  | 36 => ⟨S1x16x64, .f32⟩
  | 37 => ⟨S16x64, .f32⟩
  | 38 => ⟨S16x2048x64, .f32⟩
  | 39 => ⟨S16x2048x64, .f32⟩
  | 40 => ⟨S1x16x64, .f32⟩
  | 41 => ⟨S16x64, .f32⟩
  | 42 => ⟨S16x2048x64, .f32⟩
  | 43 => ⟨S1x16x64, .f32⟩
  | 44 => ⟨S16x64, .f32⟩
  | 45 => ⟨S16x2048x64, .f32⟩
  | 46 => ⟨S16x2048x64, .f32⟩
  | 47 => ⟨S1x64x1, .f32⟩
  | 48 => ⟨S64x1, .f32⟩
  | 49 => ⟨S1x64, .f32⟩
  | 50 => ⟨S16x2048x64, .f32⟩
  | 51 => ⟨S16x2048x64, .f32⟩
  | 52 => ⟨S16x2048x64, .f32⟩
  | 53 => ⟨S16x2048x1, .f32⟩
  | 54 => ⟨S16x2048x1, .f32⟩
  | 55 => ⟨S16x2048x1, .f32⟩
  | 56 => ⟨S1x1x16, .f32⟩
  | 57 => ⟨S16x2048x16, .f32⟩
  | 58 => ⟨S16x2048x16, .f32⟩
  | 59 => ⟨S16x2048x16, .f32⟩
  | 60 => ⟨S16x2048x16, .f32⟩
  | 61 => ⟨S16x2048x16, .f32⟩
  | 62 => ⟨S1x16x64, .f32⟩
  | 63 => ⟨S16x64, .f32⟩
  | 64 => ⟨S16x2048x64, .f32⟩
  | 65 => ⟨S1x16x64, .f32⟩
  | 66 => ⟨S16x64, .f32⟩
  | 67 => ⟨S16x2048x64, .f32⟩
  | 68 => ⟨S16x2048x64, .f32⟩
  | 69 => ⟨S1x16x64, .f32⟩
  | 70 => ⟨S16x64, .f32⟩
  | 71 => ⟨S16x2048x64, .f32⟩
  | 72 => ⟨S1x16x64, .f32⟩
  | 73 => ⟨S16x64, .f32⟩
  | 74 => ⟨S16x2048x64, .f32⟩
  | 75 => ⟨S16x2048x64, .f32⟩
  | 76 => ⟨S1x64x1, .f32⟩
  | 77 => ⟨S64x1, .f32⟩
  | 78 => ⟨S1x64, .f32⟩
  | 79 => ⟨S16x2048x64, .f32⟩
  | 80 => ⟨S16x2048x64, .f32⟩
  | 81 => ⟨S16x2048x64, .f32⟩
  | 82 => ⟨S16x2048x1, .f32⟩
  | 83 => ⟨S16x2048x1, .f32⟩
  | 84 => ⟨S16x2048x1, .f32⟩
  | 85 => ⟨S1x1x16, .f32⟩
  | 86 => ⟨S16x2048x16, .f32⟩
  | 87 => ⟨S16x2048x16, .f32⟩
  | 88 => ⟨S16x2048x16, .f32⟩
  | 89 => ⟨S16x2048x16, .f32⟩
  | 90 => ⟨S16x2048x16, .f32⟩
  | 91 => ⟨S1x16x64, .f32⟩
  | 92 => ⟨S16x64, .f32⟩
  | 93 => ⟨S16x2048x64, .f32⟩
  | 94 => ⟨S1x16x64, .f32⟩
  | 95 => ⟨S16x64, .f32⟩
  | 96 => ⟨S16x2048x64, .f32⟩
  | 97 => ⟨S16x2048x64, .f32⟩
  | 98 => ⟨S1x16x64, .f32⟩
  | 99 => ⟨S16x64, .f32⟩
  | 100 => ⟨S16x2048x64, .f32⟩
  | 101 => ⟨S1x16x64, .f32⟩
  | 102 => ⟨S16x64, .f32⟩
  | 103 => ⟨S16x2048x64, .f32⟩
  | 104 => ⟨S16x2048x64, .f32⟩
  | 105 => ⟨S1x64x1, .f32⟩
  | 106 => ⟨S64x1, .f32⟩
  | 107 => ⟨S1x64, .f32⟩
  | 108 => ⟨S16x2048x64, .f32⟩
  | 109 => ⟨S16x2048x64, .f32⟩
  | 110 => ⟨S16x2048x64, .f32⟩
  | 111 => ⟨S16x2048x1, .f32⟩
  | 112 => ⟨S16x2048x1, .f32⟩
  | 113 => ⟨S16x2048x1, .f32⟩
  | 114 => ⟨S1x1x16, .f32⟩
  | 115 => ⟨S16x2048x16, .f32⟩
  | 116 => ⟨S16x2048x16, .f32⟩
  | 117 => ⟨S16x2048x16, .f32⟩
  | 118 => ⟨S16x2048x16, .f32⟩
  | 119 => ⟨S16x2048x16, .f32⟩
  | 120 => ⟨S1x16x64, .f32⟩
  | 121 => ⟨S16x64, .f32⟩
  | 122 => ⟨S16x2048x64, .f32⟩
  | 123 => ⟨S1x16x64, .f32⟩
  | 124 => ⟨S16x64, .f32⟩
  | 125 => ⟨S16x2048x64, .f32⟩
  | 126 => ⟨S16x2048x64, .f32⟩
  | 127 => ⟨S1x16x64, .f32⟩
  | _ => ⟨S16x2048x6, .f32⟩

abbrev hbmTy0_1 (i : Nat) : BufTy := match i % 128 with
  | 0 => ⟨S16x64, .f32⟩
  | 1 => ⟨S16x2048x64, .f32⟩
  | 2 => ⟨S1x16x64, .f32⟩
  | 3 => ⟨S16x64, .f32⟩
  | 4 => ⟨S16x2048x64, .f32⟩
  | 5 => ⟨S16x2048x64, .f32⟩
  | 6 => ⟨S1x64x1, .f32⟩
  | 7 => ⟨S64x1, .f32⟩
  | 8 => ⟨S1x64, .f32⟩
  | 9 => ⟨S16x2048x64, .f32⟩
  | 10 => ⟨S16x2048x64, .f32⟩
  | 11 => ⟨S16x2048x64, .f32⟩
  | 12 => ⟨S16x2048x1, .f32⟩
  | 13 => ⟨S16x2048x1, .f32⟩
  | 14 => ⟨S16x2048x1, .f32⟩
  | 15 => ⟨S1x1x16, .f32⟩
  | 16 => ⟨S16x2048x16, .f32⟩
  | 17 => ⟨S16x2048x16, .f32⟩
  | 18 => ⟨S16x2048x16, .f32⟩
  | 19 => ⟨S16x2048x16, .f32⟩
  | 20 => ⟨S16x2048x16, .f32⟩
  | 21 => ⟨S1x16x64, .f32⟩
  | 22 => ⟨S16x64, .f32⟩
  | 23 => ⟨S16x2048x64, .f32⟩
  | 24 => ⟨S1x16x64, .f32⟩
  | 25 => ⟨S16x64, .f32⟩
  | 26 => ⟨S16x2048x64, .f32⟩
  | 27 => ⟨S16x2048x64, .f32⟩
  | 28 => ⟨S1x16x64, .f32⟩
  | 29 => ⟨S16x64, .f32⟩
  | 30 => ⟨S16x2048x64, .f32⟩
  | 31 => ⟨S1x16x64, .f32⟩
  | 32 => ⟨S16x64, .f32⟩
  | 33 => ⟨S16x2048x64, .f32⟩
  | 34 => ⟨S16x2048x64, .f32⟩
  | 35 => ⟨S1x64x1, .f32⟩
  | 36 => ⟨S64x1, .f32⟩
  | 37 => ⟨S1x64, .f32⟩
  | 38 => ⟨S16x2048x64, .f32⟩
  | 39 => ⟨S16x2048x64, .f32⟩
  | 40 => ⟨S16x2048x64, .f32⟩
  | 41 => ⟨S16x2048x1, .f32⟩
  | 42 => ⟨S16x2048x1, .f32⟩
  | 43 => ⟨S16x2048x1, .f32⟩
  | 44 => ⟨S1x1x16, .f32⟩
  | 45 => ⟨S16x2048x16, .f32⟩
  | 46 => ⟨S16x2048x16, .f32⟩
  | 47 => ⟨S16x2048x16, .f32⟩
  | 48 => ⟨S16x2048x16, .f32⟩
  | 49 => ⟨S16x2048x16, .f32⟩
  | 50 => ⟨S1x16x64, .f32⟩
  | 51 => ⟨S16x64, .f32⟩
  | 52 => ⟨S16x2048x64, .f32⟩
  | 53 => ⟨S1x16x64, .f32⟩
  | 54 => ⟨S16x64, .f32⟩
  | 55 => ⟨S16x2048x64, .f32⟩
  | 56 => ⟨S16x2048x64, .f32⟩
  | 57 => ⟨S1x16x64, .f32⟩
  | 58 => ⟨S16x64, .f32⟩
  | 59 => ⟨S16x2048x64, .f32⟩
  | 60 => ⟨S1x16x64, .f32⟩
  | 61 => ⟨S16x64, .f32⟩
  | 62 => ⟨S16x2048x64, .f32⟩
  | 63 => ⟨S16x2048x64, .f32⟩
  | 64 => ⟨S1x64x1, .f32⟩
  | 65 => ⟨S64x1, .f32⟩
  | 66 => ⟨S1x64, .f32⟩
  | 67 => ⟨S16x2048x64, .f32⟩
  | 68 => ⟨S16x2048x64, .f32⟩
  | 69 => ⟨S16x2048x64, .f32⟩
  | 70 => ⟨S16x12288x64, .f32⟩
  | 71 => ⟨S16x12288x1, .f32⟩
  | 72 => ⟨S16x12288x1, .f32⟩
  | 73 => ⟨S16x12288x1, .f32⟩
  | 74 => ⟨S_, .f32⟩
  | 75 => ⟨S16x12288x1, .f32⟩
  | 76 => ⟨S16x12288x1, .f32⟩
  | 77 => ⟨S_, .f32⟩
  | 78 => ⟨S16x12288x1, .f32⟩
  | 79 => ⟨S16x12288x1, .f32⟩
  | 80 => ⟨S16x12288x1, .f32⟩
  | 81 => ⟨S16x12288x1, .i32⟩
  | 82 => ⟨S16x12288x1, .f32⟩
  | 83 => ⟨S16x12288x1, .i32⟩
  | 84 => ⟨S16x12288x64, .i32⟩
  | 85 => ⟨S_, .i32⟩
  | 86 => ⟨S16x12288x64, .i32⟩
  | 87 => ⟨S16x12288x64, .i1⟩
  | 88 => ⟨S_, .i32⟩
  | 89 => ⟨S16x12288x64, .i32⟩
  | 90 => ⟨S16x12288x64, .i32⟩
  | 91 => ⟨S16x12288x64, .i32⟩
  | 92 => ⟨S16x12288x64x1, .i32⟩
  | 93 => ⟨S1, .i32⟩
  | 94 => ⟨S_, .i32⟩
  | 95 => ⟨S16x12288x64x1, .i32⟩
  | 96 => ⟨S16x12288x64x1, .i1⟩
  | 97 => ⟨S1x1x1x1, .i32⟩
  | 98 => ⟨S16x12288x64x1, .i32⟩
  | 99 => ⟨S16x12288x64x1, .i1⟩
  | 100 => ⟨S16x12288x64x1, .i1⟩
  | 101 => ⟨S_, .i1⟩
  | 102 => ⟨S16x12288x64, .i1⟩
  | 103 => ⟨S16x12288x64, .f32⟩
  | 104 => ⟨S_, .f32⟩
  | 105 => ⟨S16x12288x64, .f32⟩
  | 106 => ⟨S16x12288x64, .f32⟩
  | 107 => ⟨S_, .i32⟩
  | 108 => ⟨S16x12288x1, .i32⟩
  | 109 => ⟨S16x12288x1, .i1⟩
  | 110 => ⟨S_, .i32⟩
  | 111 => ⟨S16x12288x1, .i32⟩
  | 112 => ⟨S16x12288x1, .i32⟩
  | 113 => ⟨S16x12288x1, .i32⟩
  | 114 => ⟨S1, .i32⟩
  | 115 => ⟨S_, .i32⟩
  | 116 => ⟨S16x12288x1, .i32⟩
  | 117 => ⟨S16x12288x1, .i1⟩
  | 118 => ⟨S1x1x1, .i32⟩
  | 119 => ⟨S16x12288x1, .i32⟩
  | 120 => ⟨S16x12288x1, .i1⟩
  | 121 => ⟨S16x12288x1, .i1⟩
  | 122 => ⟨S_, .i1⟩
  | 123 => ⟨S16x12288, .i1⟩
  | 124 => ⟨S16x12288x1, .f32⟩
  | 125 => ⟨S16x12288x1, .i1⟩
  | 126 => ⟨S_, .f32⟩
  | 127 => ⟨S16x12288x1, .f32⟩
  | _ => ⟨S16x2048x6, .f32⟩

abbrev hbmTy0_2 (i : Nat) : BufTy := match i % 128 with
  | 0 => ⟨S16x12288x1, .f32⟩
  | 1 => ⟨S_, .i32⟩
  | 2 => ⟨S16x12288x1, .i32⟩
  | 3 => ⟨S16x12288x1, .i1⟩
  | 4 => ⟨S_, .i32⟩
  | 5 => ⟨S16x12288x1, .i32⟩
  | 6 => ⟨S16x12288x1, .i32⟩
  | 7 => ⟨S16x12288x1, .i32⟩
  | 8 => ⟨S1, .i32⟩
  | 9 => ⟨S_, .i32⟩
  | 10 => ⟨S16x12288x1, .i32⟩
  | 11 => ⟨S16x12288x1, .i1⟩
  | 12 => ⟨S1x1x1, .i32⟩
  | 13 => ⟨S16x12288x1, .i32⟩
  | 14 => ⟨S16x12288x1, .i1⟩
  | 15 => ⟨S16x12288x1, .i1⟩
  | 16 => ⟨S_, .i1⟩
  | 17 => ⟨S16x12288, .i1⟩
  | 18 => ⟨S16x12288x1, .f32⟩
  | 19 => ⟨S16x12288x1, .i1⟩
  | 20 => ⟨S_, .f32⟩
  | 21 => ⟨S16x12288x1, .f32⟩
  | 22 => ⟨S16x12288x1, .f32⟩
  | _ => ⟨S16x2048x6, .f32⟩

abbrev hbmTy (i : Nat) : BufTy := match i / 128 with
  | 0 => hbmTy0_0 i
  | 1 => hbmTy0_1 i
  | 2 => hbmTy0_2 i
  | _ => ⟨S16x2048x6, .f32⟩

abbrev bufTy : (tb : Table) → Fin (tcTables nBuf tb) → BufTy
  | .hbm, ⟨i, _⟩ => hbmTy i
  | _, _ => ⟨S16x2048x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_cst_4 : Ref sig .tc := ⟨.hbm, 202, rfl⟩
abbrev main_v189 : Ref sig .tc := ⟨.hbm, 203, rfl⟩
abbrev main_v190 : Ref sig .tc := ⟨.hbm, 204, rfl⟩
abbrev main_cst_5 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_call0_v0 : Ref sig .tc := ⟨.hbm, 209, rfl⟩
abbrev main_call0_v1_0 : Ref sig .tc := ⟨.hbm, 210, rfl⟩
abbrev main_v194 : Ref sig .tc := ⟨.hbm, 211, rfl⟩
abbrev main_v195 : Ref sig .tc := ⟨.hbm, 212, rfl⟩
abbrev main_call1_c : Ref sig .tc := ⟨.hbm, 213, rfl⟩
abbrev main_call1_v0 : Ref sig .tc := ⟨.hbm, 214, rfl⟩
abbrev main_call1_v1 : Ref sig .tc := ⟨.hbm, 215, rfl⟩
abbrev main_call1_c_0 : Ref sig .tc := ⟨.hbm, 216, rfl⟩
abbrev main_call1_v2 : Ref sig .tc := ⟨.hbm, 217, rfl⟩
abbrev main_call1_v3 : Ref sig .tc := ⟨.hbm, 218, rfl⟩
abbrev main_call1_v4 : Ref sig .tc := ⟨.hbm, 219, rfl⟩
abbrev main_call1_v5 : Ref sig .tc := ⟨.hbm, 220, rfl⟩
abbrev main_call1_c_1 : Ref sig .tc := ⟨.hbm, 221, rfl⟩
abbrev main_call1_c_2 : Ref sig .tc := ⟨.hbm, 222, rfl⟩
abbrev main_call1_v6 : Ref sig .tc := ⟨.hbm, 223, rfl⟩
abbrev main_call1_v7 : Ref sig .tc := ⟨.hbm, 224, rfl⟩
abbrev main_call1_v8 : Ref sig .tc := ⟨.hbm, 225, rfl⟩
abbrev main_call1_v9 : Ref sig .tc := ⟨.hbm, 226, rfl⟩
abbrev main_call1_v10 : Ref sig .tc := ⟨.hbm, 227, rfl⟩
abbrev main_call1_v11 : Ref sig .tc := ⟨.hbm, 228, rfl⟩
abbrev main_call1_c_3 : Ref sig .tc := ⟨.hbm, 229, rfl⟩
abbrev main_call1_v12 : Ref sig .tc := ⟨.hbm, 230, rfl⟩
abbrev main_call1_v13 : Ref sig .tc := ⟨.hbm, 231, rfl⟩
abbrev main_call1_cst : Ref sig .tc := ⟨.hbm, 232, rfl⟩
abbrev main_call1_v14 : Ref sig .tc := ⟨.hbm, 233, rfl⟩
abbrev main_v196 : Ref sig .tc := ⟨.hbm, 234, rfl⟩
abbrev main_call2_c : Ref sig .tc := ⟨.hbm, 235, rfl⟩
abbrev main_call2_v0 : Ref sig .tc := ⟨.hbm, 236, rfl⟩
abbrev main_call2_v1 : Ref sig .tc := ⟨.hbm, 237, rfl⟩
abbrev main_call2_c_0 : Ref sig .tc := ⟨.hbm, 238, rfl⟩
abbrev main_call2_v2 : Ref sig .tc := ⟨.hbm, 239, rfl⟩
abbrev main_call2_v3 : Ref sig .tc := ⟨.hbm, 240, rfl⟩
abbrev main_call2_v4 : Ref sig .tc := ⟨.hbm, 241, rfl⟩
abbrev main_call2_c_1 : Ref sig .tc := ⟨.hbm, 242, rfl⟩
abbrev main_call2_c_2 : Ref sig .tc := ⟨.hbm, 243, rfl⟩
abbrev main_call2_v5 : Ref sig .tc := ⟨.hbm, 244, rfl⟩
abbrev main_call2_v6 : Ref sig .tc := ⟨.hbm, 245, rfl⟩
abbrev main_call2_v7 : Ref sig .tc := ⟨.hbm, 246, rfl⟩
abbrev main_call2_v8 : Ref sig .tc := ⟨.hbm, 247, rfl⟩
abbrev main_call2_v9 : Ref sig .tc := ⟨.hbm, 248, rfl⟩
abbrev main_call2_v10 : Ref sig .tc := ⟨.hbm, 249, rfl⟩
abbrev main_call2_c_3 : Ref sig .tc := ⟨.hbm, 250, rfl⟩
abbrev main_call2_v11 : Ref sig .tc := ⟨.hbm, 251, rfl⟩
abbrev main_call2_v12 : Ref sig .tc := ⟨.hbm, 252, rfl⟩
abbrev main_call2_v13 : Ref sig .tc := ⟨.hbm, 253, rfl⟩
abbrev main_call2_cst : Ref sig .tc := ⟨.hbm, 254, rfl⟩
abbrev main_call2_v14 : Ref sig .tc := ⟨.hbm, 255, rfl⟩
abbrev main_v197 : Ref sig .tc := ⟨.hbm, 256, rfl⟩
abbrev main_call3_c : Ref sig .tc := ⟨.hbm, 257, rfl⟩
abbrev main_call3_v0 : Ref sig .tc := ⟨.hbm, 258, rfl⟩
abbrev main_call3_v1 : Ref sig .tc := ⟨.hbm, 259, rfl⟩
abbrev main_call3_c_0 : Ref sig .tc := ⟨.hbm, 260, rfl⟩
abbrev main_call3_v2 : Ref sig .tc := ⟨.hbm, 261, rfl⟩
abbrev main_call3_v3 : Ref sig .tc := ⟨.hbm, 262, rfl⟩
abbrev main_call3_v4 : Ref sig .tc := ⟨.hbm, 263, rfl⟩
abbrev main_call3_c_1 : Ref sig .tc := ⟨.hbm, 264, rfl⟩
abbrev main_call3_c_2 : Ref sig .tc := ⟨.hbm, 265, rfl⟩
abbrev main_call3_v5 : Ref sig .tc := ⟨.hbm, 266, rfl⟩
abbrev main_call3_v6 : Ref sig .tc := ⟨.hbm, 267, rfl⟩
abbrev main_call3_v7 : Ref sig .tc := ⟨.hbm, 268, rfl⟩
abbrev main_call3_v8 : Ref sig .tc := ⟨.hbm, 269, rfl⟩
abbrev main_call3_v9 : Ref sig .tc := ⟨.hbm, 270, rfl⟩
abbrev main_call3_v10 : Ref sig .tc := ⟨.hbm, 271, rfl⟩
abbrev main_call3_c_3 : Ref sig .tc := ⟨.hbm, 272, rfl⟩
abbrev main_call3_v11 : Ref sig .tc := ⟨.hbm, 273, rfl⟩
abbrev main_call3_v12 : Ref sig .tc := ⟨.hbm, 274, rfl⟩
abbrev main_call3_v13 : Ref sig .tc := ⟨.hbm, 275, rfl⟩
abbrev main_call3_cst : Ref sig .tc := ⟨.hbm, 276, rfl⟩
abbrev main_call3_v14 : Ref sig .tc := ⟨.hbm, 277, rfl⟩
abbrev main_v198 : Ref sig .tc := ⟨.hbm, 278, rfl⟩

abbrev nD : Nat := 1
abbrev τ : Topo := Topo.v7x

variable {F : FTy → Type} [FloatOps F]
-- ==== Proof.SortStages.lean ====
/-
  What the sort call's body computes, stage by stage.

  The body is a straight line of 105 comparison stages on four `128 x 128` planes: the key, the place in the row, `x` and
  the time. This file names the operations of one stage — the partner of a plane at distance `2 ^ s`, the comparison, the
  choice — and shows that what the body stores is what the stages, applied one after the other, make of the start.
-/
module

public import proofs.«01_k».proof.Proof.Gen.KernelIdeal.Frame
public import Idealize.ShloMosaic.Lib.Pipeline.Value

@[expose] public section

set_option maxRecDepth 16384

noncomputable section

namespace Cert.KernelIdeal.Sort

open Idealize.ShloMosaic Idealize.ShloMosaic.TcCoe Idealize.SL.Sem
open Cert.KernelIdeal Cert.KernelIdeal.Gen

variable {F : FTy → Type} [FloatOps F] [Named F]

/-- The row number of each element. -/
abbrev rowV : IVec S128x128 32 := iota .tc S128x128 32 [0] iota_S128x128_d0_w32
/-- The column number of each element. -/
abbrev colV : IVec S128x128 32 := iota .tc S128x128 32 [1] iota_S128x128_d1_w32

/-- The plane read, in each row, at the column whose number has the bits of `w` turned. -/
def colP {α : Type} (w : BitVec 32) (A : S128x128.Idx → α) : S128x128.Idx → α :=
  dynamicGather 1 A (shapeCast S128x128 (shapeCast S128x128x1
    (select (cmpi .slt (xori colV (broadcast S128x128 w)) (broadcast S128x128 0#32))
      (addi (xori colV (broadcast S128x128 w)) (broadcast S128x128 128#32)) (xori colV (broadcast S128x128 w)))
    shapeCasts_S128x128_S128x128x1) shapeCasts_S128x128x1_S128x128)

/-- The plane's rows exchanged in pairs at distance 1. -/
def rowP1 {α : Type} (A : S128x128.Idx → α) : S128x128.Idx → α :=
  select (cmpi .ne (andi rowV (broadcast S128x128 1#32)) (broadcast S128x128 0#32))
    (concatenate S128x128 0 [⟨S1x128, extractStridedSlice S1x128 ![127, 0] A slices_S128x128_o127_0_S1x128⟩,
      ⟨S127x128, extractStridedSlice S127x128 ![0, 0] A slices_S128x128_o0_0_S127x128⟩] concatenates_S1x128_S127x128_S128x128_d0)
    (concatenate S128x128 0 [⟨S127x128, extractStridedSlice S127x128 ![1, 0] A slices_S128x128_o1_0_S127x128⟩,
      ⟨S1x128, extractStridedSlice S1x128 ![0, 0] A slices_S128x128_o0_0_S1x128⟩] concatenates_S127x128_S1x128_S128x128_d0)

/-- The plane's rows exchanged in pairs at distance 2. -/
def rowP2 {α : Type} (A : S128x128.Idx → α) : S128x128.Idx → α :=
  select (cmpi .ne (andi rowV (broadcast S128x128 2#32)) (broadcast S128x128 0#32))
    (concatenate S128x128 0 [⟨S2x128, extractStridedSlice S2x128 ![126, 0] A slices_S128x128_o126_0_S2x128⟩,
      ⟨S126x128, extractStridedSlice S126x128 ![0, 0] A slices_S128x128_o0_0_S126x128⟩] concatenates_S2x128_S126x128_S128x128_d0)
    (concatenate S128x128 0 [⟨S126x128, extractStridedSlice S126x128 ![2, 0] A slices_S128x128_o2_0_S126x128⟩,
      ⟨S2x128, extractStridedSlice S2x128 ![0, 0] A slices_S128x128_o0_0_S2x128⟩] concatenates_S126x128_S2x128_S128x128_d0)

/-- The plane's rows exchanged in pairs at distance 4. -/
def rowP4 {α : Type} (A : S128x128.Idx → α) : S128x128.Idx → α :=
  select (cmpi .ne (andi rowV (broadcast S128x128 4#32)) (broadcast S128x128 0#32))
    (concatenate S128x128 0 [⟨S4x128, extractStridedSlice S4x128 ![124, 0] A slices_S128x128_o124_0_S4x128⟩,
      ⟨S124x128, extractStridedSlice S124x128 ![0, 0] A slices_S128x128_o0_0_S124x128⟩] concatenates_S4x128_S124x128_S128x128_d0)
    (concatenate S128x128 0 [⟨S124x128, extractStridedSlice S124x128 ![4, 0] A slices_S128x128_o4_0_S124x128⟩,
      ⟨S4x128, extractStridedSlice S4x128 ![0, 0] A slices_S128x128_o0_0_S4x128⟩] concatenates_S124x128_S4x128_S128x128_d0)

/-- The plane's rows exchanged in pairs at distance 8. -/
def rowP8 {α : Type} (A : S128x128.Idx → α) : S128x128.Idx → α :=
  select (cmpi .ne (andi rowV (broadcast S128x128 8#32)) (broadcast S128x128 0#32))
    (concatenate S128x128 0 [⟨S8x128, extractStridedSlice S8x128 ![120, 0] A slices_S128x128_o120_0_S8x128⟩,
      ⟨S120x128, extractStridedSlice S120x128 ![0, 0] A slices_S128x128_o0_0_S120x128⟩] concatenates_S8x128_S120x128_S128x128_d0)
    (concatenate S128x128 0 [⟨S120x128, extractStridedSlice S120x128 ![8, 0] A slices_S128x128_o8_0_S120x128⟩,
      ⟨S8x128, extractStridedSlice S8x128 ![0, 0] A slices_S128x128_o0_0_S8x128⟩] concatenates_S120x128_S8x128_S128x128_d0)

/-- The plane's rows exchanged in pairs at distance 16. -/
def rowP16 {α : Type} (A : S128x128.Idx → α) : S128x128.Idx → α :=
  select (cmpi .ne (andi rowV (broadcast S128x128 16#32)) (broadcast S128x128 0#32))
    (concatenate S128x128 0 [⟨S16x128, extractStridedSlice S16x128 ![112, 0] A slices_S128x128_o112_0_S16x128⟩,
      ⟨S112x128, extractStridedSlice S112x128 ![0, 0] A slices_S128x128_o0_0_S112x128⟩] concatenates_S16x128_S112x128_S128x128_d0)
    (concatenate S128x128 0 [⟨S112x128, extractStridedSlice S112x128 ![16, 0] A slices_S128x128_o16_0_S112x128⟩,
      ⟨S16x128, extractStridedSlice S16x128 ![0, 0] A slices_S128x128_o0_0_S16x128⟩] concatenates_S112x128_S16x128_S128x128_d0)

/-- The plane's rows exchanged in pairs at distance 32. -/
def rowP32 {α : Type} (A : S128x128.Idx → α) : S128x128.Idx → α :=
  select (cmpi .ne (andi rowV (broadcast S128x128 32#32)) (broadcast S128x128 0#32))
    (concatenate S128x128 0 [⟨S32x128, extractStridedSlice S32x128 ![96, 0] A slices_S128x128_o96_0_S32x128⟩,
      ⟨S96x128, extractStridedSlice S96x128 ![0, 0] A slices_S128x128_o0_0_S96x128⟩] concatenates_S32x128_S96x128_S128x128_d0)
    (concatenate S128x128 0 [⟨S96x128, extractStridedSlice S96x128 ![32, 0] A slices_S128x128_o32_0_S96x128⟩,
      ⟨S32x128, extractStridedSlice S32x128 ![0, 0] A slices_S128x128_o0_0_S32x128⟩] concatenates_S96x128_S32x128_S128x128_d0)

/-- The plane's rows exchanged in pairs at distance 64. -/
def rowP64 {α : Type} (A : S128x128.Idx → α) : S128x128.Idx → α :=
  select (cmpi .ne (andi rowV (broadcast S128x128 64#32)) (broadcast S128x128 0#32))
    (concatenate S128x128 0 [⟨S64x128, extractStridedSlice S64x128 ![64, 0] A slices_S128x128_o64_0_S64x128⟩,
      ⟨S64x128, extractStridedSlice S64x128 ![0, 0] A slices_S128x128_o0_0_S64x128⟩] concatenates_S64x128_S64x128_S128x128_d0)
    (concatenate S128x128 0 [⟨S64x128, extractStridedSlice S64x128 ![64, 0] A slices_S128x128_o64_0_S64x128⟩,
      ⟨S64x128, extractStridedSlice S64x128 ![0, 0] A slices_S128x128_o0_0_S64x128⟩] concatenates_S64x128_S64x128_S128x128_d0)

/-- The partner plane at distance `2 ^ s`: a column exchange below 128, a row exchange from there on. -/
def partV {α : Type} (s : ℕ) (A : S128x128.Idx → α) : S128x128.Idx → α :=
  match s with
  | 0 => colP 1#32 A
  | 1 => colP 2#32 A
  | 2 => colP 4#32 A
  | 3 => colP 8#32 A
  | 4 => colP 16#32 A
  | 5 => colP 32#32 A
  | 6 => colP 64#32 A
  | 7 => rowP1 A
  | 8 => rowP2 A
  | 9 => rowP4 A
  | 10 => rowP8 A
  | 11 => rowP16 A
  | 12 => rowP32 A
  | 13 => rowP64 A
  | _ => A

/-- Whether bit `s` of the element's place `j` is zero. -/
def bitV (j : IVec S128x128 32) (s : ℕ) : IVec S128x128 1 :=
  cmpi .eq (andi j (broadcast S128x128 (BitVec.ofNat 32 (2 ^ s)))) (broadcast S128x128 0#32)

/-- Where a stage takes the partner: the pair `(key, place)` is below the partner's or not, and the smaller is wanted or not. -/
def takeV (j : IVec S128x128 32) (k s : ℕ) (K : FVec F S128x128 .f32) (I : IVec S128x128 32) : IVec S128x128 1 :=
  xori (ori (cmpf .olt K (partV s K)) (andi (cmpf .oeq K (partV s K)) (cmpi .slt I (partV s I))))
    (xori (xori (bitV j k) (bitV j s)) (constantI S128x128 1 1#1))

/-- The four planes. -/
structure Planes (F : FTy → Type) where
  key : FVec F S128x128 .f32
  idx : IVec S128x128 32
  xs : FVec F S128x128 .f32
  ts : FVec F S128x128 .f32

/-- One comparison stage of block size `2 ^ k` at distance `2 ^ s`. -/
def stageV (j : IVec S128x128 32) (k s : ℕ) (p : Planes F) : Planes F where
  key := select (takeV j k s p.key p.idx) (partV s p.key) p.key
  idx := select (takeV j k s p.key p.idx) (partV s p.idx) p.idx
  xs := select (takeV j k s p.key p.idx) (partV s p.xs) p.xs
  ts := select (takeV j k s p.key p.idx) (partV s p.ts) p.ts

/-- The stages of one level at the distances `2 ^ (s-1), …, 2, 1`. -/
def mergeV (j : IVec S128x128 32) (k : ℕ) : ℕ → Planes F → Planes F
  | 0, p => p
  | s + 1, p => mergeV j k s (stageV j k s p)

/-- The first `n` levels. -/
def netV (j : IVec S128x128 32) : ℕ → Planes F → Planes F
  | 0, p => p
  | n + 1, p => mergeV j (n + 1) (n + 1) (netV j n p)

/-- The planes at the start: `x0` the times, `x1` the mask, `x2` the values of one padded batch row. -/
def start (x0 x1 x2 : Vec F S1x128x128 .f32) : Planes F where
  key := k0_pay9 x0 x1
  idx := k0_pay8
  xs := k0_pay7 x2
  ts := k0_pay6 x0

/-! ## The printed operations are these -/

theorem bit_0 (j : IVec S128x128 32) : cmpi .eq (andi j (broadcast S128x128 1#32)) (broadcast S128x128 0#32) = bitV j 0 := rfl
theorem bit_1 (j : IVec S128x128 32) : cmpi .eq (andi j (broadcast S128x128 2#32)) (broadcast S128x128 0#32) = bitV j 1 := rfl
theorem bit_2 (j : IVec S128x128 32) : cmpi .eq (andi j (broadcast S128x128 4#32)) (broadcast S128x128 0#32) = bitV j 2 := rfl
theorem bit_3 (j : IVec S128x128 32) : cmpi .eq (andi j (broadcast S128x128 8#32)) (broadcast S128x128 0#32) = bitV j 3 := rfl
theorem bit_4 (j : IVec S128x128 32) : cmpi .eq (andi j (broadcast S128x128 16#32)) (broadcast S128x128 0#32) = bitV j 4 := rfl
theorem bit_5 (j : IVec S128x128 32) : cmpi .eq (andi j (broadcast S128x128 32#32)) (broadcast S128x128 0#32) = bitV j 5 := rfl
theorem bit_6 (j : IVec S128x128 32) : cmpi .eq (andi j (broadcast S128x128 64#32)) (broadcast S128x128 0#32) = bitV j 6 := rfl
theorem bit_7 (j : IVec S128x128 32) : cmpi .eq (andi j (broadcast S128x128 128#32)) (broadcast S128x128 0#32) = bitV j 7 := rfl
theorem bit_8 (j : IVec S128x128 32) : cmpi .eq (andi j (broadcast S128x128 256#32)) (broadcast S128x128 0#32) = bitV j 8 := rfl
theorem bit_9 (j : IVec S128x128 32) : cmpi .eq (andi j (broadcast S128x128 512#32)) (broadcast S128x128 0#32) = bitV j 9 := rfl
theorem bit_10 (j : IVec S128x128 32) : cmpi .eq (andi j (broadcast S128x128 1024#32)) (broadcast S128x128 0#32) = bitV j 10 := rfl
theorem bit_11 (j : IVec S128x128 32) : cmpi .eq (andi j (broadcast S128x128 2048#32)) (broadcast S128x128 0#32) = bitV j 11 := rfl
theorem bit_12 (j : IVec S128x128 32) : cmpi .eq (andi j (broadcast S128x128 4096#32)) (broadcast S128x128 0#32) = bitV j 12 := rfl
theorem bit_13 (j : IVec S128x128 32) : cmpi .eq (andi j (broadcast S128x128 8192#32)) (broadcast S128x128 0#32) = bitV j 13 := rfl
theorem bit_14 (j : IVec S128x128 32) : cmpi .eq (andi j (broadcast S128x128 16384#32)) (broadcast S128x128 0#32) = bitV j 14 := rfl
theorem part_0 {α : Type} (A : S128x128.Idx → α) : dynamicGather 1 A (shapeCast S128x128 (shapeCast S128x128x1
    (select (cmpi .slt (xori (iota .tc S128x128 32 [1] iota_S128x128_d1_w32) (broadcast S128x128 1#32)) (broadcast S128x128 0#32))
      (addi (xori (iota .tc S128x128 32 [1] iota_S128x128_d1_w32) (broadcast S128x128 1#32)) (broadcast S128x128 128#32))
      (xori (iota .tc S128x128 32 [1] iota_S128x128_d1_w32) (broadcast S128x128 1#32)))
    shapeCasts_S128x128_S128x128x1) shapeCasts_S128x128x1_S128x128) = partV 0 A := rfl
theorem part_1 {α : Type} (A : S128x128.Idx → α) : dynamicGather 1 A (shapeCast S128x128 (shapeCast S128x128x1
    (select (cmpi .slt (xori (iota .tc S128x128 32 [1] iota_S128x128_d1_w32) (broadcast S128x128 2#32)) (broadcast S128x128 0#32))
      (addi (xori (iota .tc S128x128 32 [1] iota_S128x128_d1_w32) (broadcast S128x128 2#32)) (broadcast S128x128 128#32))
      (xori (iota .tc S128x128 32 [1] iota_S128x128_d1_w32) (broadcast S128x128 2#32)))
    shapeCasts_S128x128_S128x128x1) shapeCasts_S128x128x1_S128x128) = partV 1 A := rfl
theorem part_2 {α : Type} (A : S128x128.Idx → α) : dynamicGather 1 A (shapeCast S128x128 (shapeCast S128x128x1
    (select (cmpi .slt (xori (iota .tc S128x128 32 [1] iota_S128x128_d1_w32) (broadcast S128x128 4#32)) (broadcast S128x128 0#32))
      (addi (xori (iota .tc S128x128 32 [1] iota_S128x128_d1_w32) (broadcast S128x128 4#32)) (broadcast S128x128 128#32))
      (xori (iota .tc S128x128 32 [1] iota_S128x128_d1_w32) (broadcast S128x128 4#32)))
    shapeCasts_S128x128_S128x128x1) shapeCasts_S128x128x1_S128x128) = partV 2 A := rfl
theorem part_3 {α : Type} (A : S128x128.Idx → α) : dynamicGather 1 A (shapeCast S128x128 (shapeCast S128x128x1
    (select (cmpi .slt (xori (iota .tc S128x128 32 [1] iota_S128x128_d1_w32) (broadcast S128x128 8#32)) (broadcast S128x128 0#32))
      (addi (xori (iota .tc S128x128 32 [1] iota_S128x128_d1_w32) (broadcast S128x128 8#32)) (broadcast S128x128 128#32))
      (xori (iota .tc S128x128 32 [1] iota_S128x128_d1_w32) (broadcast S128x128 8#32)))
    shapeCasts_S128x128_S128x128x1) shapeCasts_S128x128x1_S128x128) = partV 3 A := rfl
theorem part_4 {α : Type} (A : S128x128.Idx → α) : dynamicGather 1 A (shapeCast S128x128 (shapeCast S128x128x1
    (select (cmpi .slt (xori (iota .tc S128x128 32 [1] iota_S128x128_d1_w32) (broadcast S128x128 16#32)) (broadcast S128x128 0#32))
      (addi (xori (iota .tc S128x128 32 [1] iota_S128x128_d1_w32) (broadcast S128x128 16#32)) (broadcast S128x128 128#32))
      (xori (iota .tc S128x128 32 [1] iota_S128x128_d1_w32) (broadcast S128x128 16#32)))
    shapeCasts_S128x128_S128x128x1) shapeCasts_S128x128x1_S128x128) = partV 4 A := rfl
theorem part_5 {α : Type} (A : S128x128.Idx → α) : dynamicGather 1 A (shapeCast S128x128 (shapeCast S128x128x1
    (select (cmpi .slt (xori (iota .tc S128x128 32 [1] iota_S128x128_d1_w32) (broadcast S128x128 32#32)) (broadcast S128x128 0#32))
      (addi (xori (iota .tc S128x128 32 [1] iota_S128x128_d1_w32) (broadcast S128x128 32#32)) (broadcast S128x128 128#32))
      (xori (iota .tc S128x128 32 [1] iota_S128x128_d1_w32) (broadcast S128x128 32#32)))
    shapeCasts_S128x128_S128x128x1) shapeCasts_S128x128x1_S128x128) = partV 5 A := rfl
theorem part_6 {α : Type} (A : S128x128.Idx → α) : dynamicGather 1 A (shapeCast S128x128 (shapeCast S128x128x1
    (select (cmpi .slt (xori (iota .tc S128x128 32 [1] iota_S128x128_d1_w32) (broadcast S128x128 64#32)) (broadcast S128x128 0#32))
      (addi (xori (iota .tc S128x128 32 [1] iota_S128x128_d1_w32) (broadcast S128x128 64#32)) (broadcast S128x128 128#32))
      (xori (iota .tc S128x128 32 [1] iota_S128x128_d1_w32) (broadcast S128x128 64#32)))
    shapeCasts_S128x128_S128x128x1) shapeCasts_S128x128x1_S128x128) = partV 6 A := rfl
theorem part_7 {α : Type} (A : S128x128.Idx → α) : select (cmpi .ne (andi (iota .tc S128x128 32 [0] iota_S128x128_d0_w32) (broadcast S128x128 1#32)) (broadcast S128x128 0#32))
    (concatenate S128x128 0 [⟨S1x128, extractStridedSlice S1x128 ![127, 0] A slices_S128x128_o127_0_S1x128⟩,
      ⟨S127x128, extractStridedSlice S127x128 ![0, 0] A slices_S128x128_o0_0_S127x128⟩] concatenates_S1x128_S127x128_S128x128_d0)
    (concatenate S128x128 0 [⟨S127x128, extractStridedSlice S127x128 ![1, 0] A slices_S128x128_o1_0_S127x128⟩,
      ⟨S1x128, extractStridedSlice S1x128 ![0, 0] A slices_S128x128_o0_0_S1x128⟩] concatenates_S127x128_S1x128_S128x128_d0)
    = partV 7 A := rfl
theorem part_8 {α : Type} (A : S128x128.Idx → α) : select (cmpi .ne (andi (iota .tc S128x128 32 [0] iota_S128x128_d0_w32) (broadcast S128x128 2#32)) (broadcast S128x128 0#32))
    (concatenate S128x128 0 [⟨S2x128, extractStridedSlice S2x128 ![126, 0] A slices_S128x128_o126_0_S2x128⟩,
      ⟨S126x128, extractStridedSlice S126x128 ![0, 0] A slices_S128x128_o0_0_S126x128⟩] concatenates_S2x128_S126x128_S128x128_d0)
    (concatenate S128x128 0 [⟨S126x128, extractStridedSlice S126x128 ![2, 0] A slices_S128x128_o2_0_S126x128⟩,
      ⟨S2x128, extractStridedSlice S2x128 ![0, 0] A slices_S128x128_o0_0_S2x128⟩] concatenates_S126x128_S2x128_S128x128_d0)
    = partV 8 A := rfl
theorem part_9 {α : Type} (A : S128x128.Idx → α) : select (cmpi .ne (andi (iota .tc S128x128 32 [0] iota_S128x128_d0_w32) (broadcast S128x128 4#32)) (broadcast S128x128 0#32))
    (concatenate S128x128 0 [⟨S4x128, extractStridedSlice S4x128 ![124, 0] A slices_S128x128_o124_0_S4x128⟩,
      ⟨S124x128, extractStridedSlice S124x128 ![0, 0] A slices_S128x128_o0_0_S124x128⟩] concatenates_S4x128_S124x128_S128x128_d0)
    (concatenate S128x128 0 [⟨S124x128, extractStridedSlice S124x128 ![4, 0] A slices_S128x128_o4_0_S124x128⟩,
      ⟨S4x128, extractStridedSlice S4x128 ![0, 0] A slices_S128x128_o0_0_S4x128⟩] concatenates_S124x128_S4x128_S128x128_d0)
    = partV 9 A := rfl
theorem part_10 {α : Type} (A : S128x128.Idx → α) : select (cmpi .ne (andi (iota .tc S128x128 32 [0] iota_S128x128_d0_w32) (broadcast S128x128 8#32)) (broadcast S128x128 0#32))
    (concatenate S128x128 0 [⟨S8x128, extractStridedSlice S8x128 ![120, 0] A slices_S128x128_o120_0_S8x128⟩,
      ⟨S120x128, extractStridedSlice S120x128 ![0, 0] A slices_S128x128_o0_0_S120x128⟩] concatenates_S8x128_S120x128_S128x128_d0)
    (concatenate S128x128 0 [⟨S120x128, extractStridedSlice S120x128 ![8, 0] A slices_S128x128_o8_0_S120x128⟩,
      ⟨S8x128, extractStridedSlice S8x128 ![0, 0] A slices_S128x128_o0_0_S8x128⟩] concatenates_S120x128_S8x128_S128x128_d0)
    = partV 10 A := rfl
theorem part_11 {α : Type} (A : S128x128.Idx → α) : select (cmpi .ne (andi (iota .tc S128x128 32 [0] iota_S128x128_d0_w32) (broadcast S128x128 16#32)) (broadcast S128x128 0#32))
    (concatenate S128x128 0 [⟨S16x128, extractStridedSlice S16x128 ![112, 0] A slices_S128x128_o112_0_S16x128⟩,
      ⟨S112x128, extractStridedSlice S112x128 ![0, 0] A slices_S128x128_o0_0_S112x128⟩] concatenates_S16x128_S112x128_S128x128_d0)
    (concatenate S128x128 0 [⟨S112x128, extractStridedSlice S112x128 ![16, 0] A slices_S128x128_o16_0_S112x128⟩,
      ⟨S16x128, extractStridedSlice S16x128 ![0, 0] A slices_S128x128_o0_0_S16x128⟩] concatenates_S112x128_S16x128_S128x128_d0)
    = partV 11 A := rfl
theorem part_12 {α : Type} (A : S128x128.Idx → α) : select (cmpi .ne (andi (iota .tc S128x128 32 [0] iota_S128x128_d0_w32) (broadcast S128x128 32#32)) (broadcast S128x128 0#32))
    (concatenate S128x128 0 [⟨S32x128, extractStridedSlice S32x128 ![96, 0] A slices_S128x128_o96_0_S32x128⟩,
      ⟨S96x128, extractStridedSlice S96x128 ![0, 0] A slices_S128x128_o0_0_S96x128⟩] concatenates_S32x128_S96x128_S128x128_d0)
    (concatenate S128x128 0 [⟨S96x128, extractStridedSlice S96x128 ![32, 0] A slices_S128x128_o32_0_S96x128⟩,
      ⟨S32x128, extractStridedSlice S32x128 ![0, 0] A slices_S128x128_o0_0_S32x128⟩] concatenates_S96x128_S32x128_S128x128_d0)
    = partV 12 A := rfl
theorem part_13 {α : Type} (A : S128x128.Idx → α) : select (cmpi .ne (andi (iota .tc S128x128 32 [0] iota_S128x128_d0_w32) (broadcast S128x128 64#32)) (broadcast S128x128 0#32))
    (concatenate S128x128 0 [⟨S64x128, extractStridedSlice S64x128 ![64, 0] A slices_S128x128_o64_0_S64x128⟩,
      ⟨S64x128, extractStridedSlice S64x128 ![0, 0] A slices_S128x128_o0_0_S64x128⟩] concatenates_S64x128_S64x128_S128x128_d0)
    (concatenate S128x128 0 [⟨S64x128, extractStridedSlice S64x128 ![64, 0] A slices_S128x128_o64_0_S64x128⟩,
      ⟨S64x128, extractStridedSlice S64x128 ![0, 0] A slices_S128x128_o0_0_S64x128⟩] concatenates_S64x128_S64x128_S128x128_d0)
    = partV 13 A := rfl

theorem take_eq (j : IVec S128x128 32) (k s : ℕ) (K : FVec F S128x128 .f32) (I : IVec S128x128 32) :
    xori (ori (cmpf .olt K (partV s K)) (andi (cmpf .oeq K (partV s K)) (cmpi .slt I (partV s I))))
      (xori (xori (bitV j k) (bitV j s)) (constantI S128x128 1 1#1)) = takeV j k s K I := rfl

theorem stage_key (j : IVec S128x128 32) (k s : ℕ) (p : Planes F) :
    select (takeV j k s p.key p.idx) (partV s p.key) p.key = (stageV j k s p).key := rfl
theorem stage_idx (j : IVec S128x128 32) (k s : ℕ) (p : Planes F) :
    select (takeV j k s p.key p.idx) (partV s p.idx) p.idx = (stageV j k s p).idx := rfl
theorem stage_xs (j : IVec S128x128 32) (k s : ℕ) (p : Planes F) :
    select (takeV j k s p.key p.idx) (partV s p.xs) p.xs = (stageV j k s p).xs := rfl
theorem stage_ts (j : IVec S128x128 32) (k s : ℕ) (p : Planes F) :
    select (takeV j k s p.key p.idx) (partV s p.ts) p.ts = (stageV j k s p).ts := rfl

theorem start_key (x0 x1 x2 : Vec F S1x128x128 .f32) : k0_pay9 x0 x1 = (start x0 x1 x2).key := by simp only [start]
theorem start_idx (x0 x1 x2 : Vec F S1x128x128 .f32) : k0_pay8 = (start x0 x1 x2).idx := by simp only [start]
theorem start_xs (x0 x1 x2 : Vec F S1x128x128 .f32) : k0_pay7 x2 = (start x0 x1 x2).xs := by simp only [start]
theorem start_ts (x0 x1 x2 : Vec F S1x128x128 .f32) : k0_pay6 x0 = (start x0 x1 x2).ts := by simp only [start]

end Cert.KernelIdeal.Sort
-- ==== Proof.SortOut.lean ====
/-
  What the sort call's body leaves in its four outputs: the planes after all the stages.
-/
module

public import proofs.«01_k».proof.Proof.SortStages

@[expose] public section

set_option maxRecDepth 65536

noncomputable section

namespace Cert.KernelIdeal.Sort

open Idealize.ShloMosaic Idealize.ShloMosaic.TcCoe Idealize.SL.Sem
open Cert.KernelIdeal Cert.KernelIdeal.Gen

variable {F : FTy → Type} [FloatOps F] [Named F]

theorem hz3 : (![0, 0, 0] : Fin 3 → Nat) = fun _ => 0 := funext fun a => by fin_cases a <;> rfl

theorem idx_eq (x0 x1 x2 : Vec F S1x128x128 .f32) :
    addi (muli rowV (broadcast S128x128 128#32)) colV = (start x0 x1 x2).idx := by
  simp only [start, k0_pay8]
theorem xs_eq (x0 x1 x2 : Vec F S1x128x128 .f32) :
    shapeCast S128x128 x2 shapeCasts_S1x128x128_S128x128 = (start x0 x1 x2).xs := by
  simp only [start, k0_pay7]
theorem ts_eq (x0 x1 x2 : Vec F S1x128x128 .f32) :
    shapeCast S128x128 x0 shapeCasts_S1x128x128_S128x128 = (start x0 x1 x2).ts := by
  simp only [start, k0_pay6]
theorem key_eq (x0 x1 x2 : Vec F S1x128x128 .f32) :
    select (cmpi .slt (start x0 x1 x2).idx (broadcast S128x128 12288#32))
      (select (cmpf .ogt (shapeCast S128x128 x1 shapeCasts_S1x128x128_S128x128)
          (broadcast S128x128 (FloatOps.ofBits .f32 0x00000000#32 : F .f32)))
        (start x0 x1 x2).ts (broadcast S128x128 (FloatOps.ofBits .f32 0x4B18967F#32 : F .f32)))
      (broadcast S128x128 (FloatOps.ofBits .f32 0x501502F9#32 : F .f32)) = (start x0 x1 x2).key := by
  simp only [start, k0_pay9, k0_pay6]

/-- The planes after all the levels. -/
def last (x0 x1 x2 : Vec F S1x128x128 .f32) : Planes F := netV (start x0 x1 x2).idx 14 (start x0 x1 x2)

/-- The mask found from the sorted keys. -/
def maskOf (K : FVec F S128x128 .f32) : FVec F S128x128 .f32 :=
  select (cmpf .olt K (broadcast S128x128 (FloatOps.ofBits .f32 0x4A989680#32 : F .f32)))
    (broadcast S128x128 (FloatOps.ofBits .f32 0x3F800000#32 : F .f32))
    (broadcast S128x128 (FloatOps.ofBits .f32 0x00000000#32 : F .f32))

set_option maxHeartbeats 8000000 in
/-- The four outputs of the sort call's body: times, mask, values and indices after all the levels. -/
theorem out_all (c : Dev nD) (i : grid0.Coords) (arg1 : Memref sig .tc .vmem S1x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .i32) (harg7 : arg7.IsWhole) (arg8 : Memref sig .tc .vmem S8x128 .f32) (harg8 : arg8.IsWhole)
    (x0 : Vec F S1x128x128 .f32) (x1 : Vec F S1x128x128 .f32) (x2 : Vec F S1x128x128 .f32) :
    out0_A_3 c i arg1 harg1 arg2 harg2 arg3 harg3 arg4 harg4 arg5 harg5 arg6 harg6 arg7 harg7 arg8 harg8 x0 x1 x2
        = shapeCast S1x128x128 (last x0 x1 x2).ts shapeCasts_S128x128_S1x128x128
    ∧ out0_A_4 c i arg1 harg1 arg2 harg2 arg3 harg3 arg4 harg4 arg5 harg5 arg6 harg6 arg7 harg7 arg8 harg8 x0 x1 x2
        = shapeCast S1x128x128 (maskOf (last x0 x1 x2).key) shapeCasts_S128x128_S1x128x128
    ∧ out0_A_5 c i arg1 harg1 arg2 harg2 arg3 harg3 arg4 harg4 arg5 harg5 arg6 harg6 arg7 harg7 arg8 harg8 x0 x1 x2
        = shapeCast S1x128x128 (last x0 x1 x2).xs shapeCasts_S128x128_S1x128x128
    ∧ out0_A_6 c i arg1 harg1 arg2 harg2 arg3 harg3 arg4 harg4 arg5 harg5 arg6 harg6 arg7 harg7 arg8 harg8 x0 x1 x2
        = shapeCast S1x128x128 (last x0 x1 x2).idx shapeCasts_S128x128_S1x128x128 := by
  have hl : last x0 x1 x2 = netV (start x0 x1 x2).idx 14 (start x0 x1 x2) := rfl
  rw [hl]
  unfold maskOf
  refine ⟨?_, ?_, ?_, ?_⟩
  on_goal 1 =>
    unfold out0_A_3
    rw [View.read_writes_eq_canon _ _ _ (cover0_A_3 c i arg1 harg1 arg2 harg2 arg3 harg3 arg4 harg4 arg5 harg5 arg6 harg6 arg7 harg7 arg8 harg8 x0 x1 x2)]
  on_goal 2 =>
    unfold out0_A_4
    rw [View.read_writes_eq_canon _ _ _ (cover0_A_4 c i arg1 harg1 arg2 harg2 arg3 harg3 arg4 harg4 arg5 harg5 arg6 harg6 arg7 harg7 arg8 harg8 x0 x1 x2)]
  on_goal 3 =>
    unfold out0_A_5
    rw [View.read_writes_eq_canon _ _ _ (cover0_A_5 c i arg1 harg1 arg2 harg2 arg3 harg3 arg4 harg4 arg5 harg5 arg6 harg6 arg7 harg7 arg8 harg8 x0 x1 x2)]
  on_goal 4 =>
    unfold out0_A_6
    rw [View.read_writes_eq_canon _ _ _ (cover0_A_6 c i arg1 harg1 arg2 harg2 arg3 harg3 arg4 harg4 arg5 harg5 arg6 harg6 arg7 harg7 arg8 harg8 x0 x1 x2)]
  all_goals unfold kernelRun0_A
  all_goals dsimp only
  all_goals rw [View.canon_unit_zero hz3]
  all_goals sl_unfold_run_names
  all_goals simp only [View.readAt_eq_ld, harg1.read_unread, harg2.read_unread, harg3.read_unread, View.ld_unit_zero (S := S1x128x128) hz3]
  all_goals simp only [start_key x0 x1 x2, start_idx x0 x1 x2, start_xs x0 x1 x2, start_ts x0 x1 x2, bit_0, bit_1, bit_2, bit_3, bit_4, bit_5, bit_6, bit_7, bit_8, bit_9, bit_10, bit_11, bit_12, bit_13, bit_14,
    k0_pay1, k0_pay2, k0_pay3, k0_pay4, k0_pay5, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82,
    k0_pay83, k0_pay84, k0_pay85, k0_pay86, k0_pay87, k0_pay88, k0_pay89, k0_pay90, k0_pay91, k0_pay92, k0_pay93,
    k0_pay94, k0_pay95, k0_pay96, k0_pay97, k0_pay98, k0_pay99, k0_pay100, k0_pay101, k0_pay102, k0_pay103, k0_pay104,
    k0_pay105, k0_pay106, k0_pay107, k0_pay108, k0_pay109, k0_pay110, k0_pay111, k0_pay112, k0_pay113, k0_pay114,
    k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134,
    k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154,
    k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194,
    k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214,
    k0_pay215, k0_pay216, k0_pay217, k0_pay218, k0_pay219, k0_pay220, k0_pay221, k0_pay222, k0_pay223, k0_pay224,
    k0_pay225, k0_pay226, k0_pay227, k0_pay228, k0_pay229, k0_pay230, k0_pay231, k0_pay232, k0_pay233, k0_pay234,
    k0_pay235, k0_pay236, k0_pay237, k0_pay238, k0_pay239, k0_pay240, k0_pay241, k0_pay242, k0_pay243, k0_pay244,
    k0_pay245, k0_pay246, k0_pay247, k0_pay248, k0_pay249, k0_pay250, k0_pay251, k0_pay252, k0_pay253, k0_pay254,
    k0_pay255, k0_pay256, k0_pay257, k0_pay258, k0_pay259, k0_pay260, k0_pay261, k0_pay262, k0_pay263, k0_pay264,
    k0_pay265, k0_pay266, k0_pay267, k0_pay268, k0_pay269, k0_pay270, k0_pay271, k0_pay272, k0_pay273, k0_pay274,
    k0_pay275, k0_pay276, k0_pay277, k0_pay278, k0_pay279, k0_pay280, k0_pay281, k0_pay282, k0_pay283, k0_pay284,
    k0_pay285, k0_pay286, k0_pay287, k0_pay288, k0_pay289, k0_pay290, k0_pay291, k0_pay292, k0_pay293, k0_pay294,
    k0_pay295, k0_pay296, k0_pay297, k0_pay298, k0_pay299, k0_pay300, k0_pay301, k0_pay302, k0_pay303, k0_pay304,
    k0_pay305, k0_pay306, k0_pay307, k0_pay308, k0_pay309, k0_pay310, k0_pay311, k0_pay312, k0_pay313, k0_pay314,
    k0_pay315, k0_pay316, k0_pay317, k0_pay318, k0_pay319, k0_pay320, k0_pay321, k0_pay322, k0_pay323, k0_pay324,
    k0_pay325, k0_pay326, k0_pay327, k0_pay328, k0_pay329, k0_pay330, k0_pay331, k0_pay332, k0_pay333, k0_pay334,
    k0_pay335, k0_pay336, k0_pay337, k0_pay338, k0_pay339, k0_pay340, k0_pay341, k0_pay342, k0_pay343, k0_pay344,
    k0_pay345, k0_pay346, k0_pay347, k0_pay348, k0_pay349, k0_pay350, k0_pay351, k0_pay352, k0_pay353, k0_pay354,
    k0_pay355, k0_pay356, k0_pay357, k0_pay358, k0_pay359, k0_pay360, k0_pay361, k0_pay362, k0_pay363, k0_pay364,
    k0_pay365, k0_pay366, k0_pay367, k0_pay368, k0_pay369, k0_pay370, k0_pay371, k0_pay372, k0_pay373, k0_pay374,
    k0_pay375, k0_pay376, k0_pay377, k0_pay378, k0_pay379, k0_pay380, k0_pay381, k0_pay382, k0_pay383, k0_pay384,
    k0_pay385, k0_pay386, k0_pay387, k0_pay388, k0_pay389, k0_pay390, k0_pay391, k0_pay392, k0_pay393, k0_pay394,
    k0_pay395, k0_pay396, k0_pay397, k0_pay398, k0_pay399, k0_pay400, k0_pay401, k0_pay402, k0_pay403, k0_pay404,
    k0_pay405, k0_pay406, k0_pay407, k0_pay408, k0_pay409, k0_pay410, k0_pay411, k0_pay412, k0_pay413, k0_pay414,
    k0_pay415, k0_pay416, k0_pay417, k0_pay418, k0_pay419, k0_pay420, k0_pay421, k0_pay422, k0_pay423, k0_pay424,
    k0_pay425, k0_pay426, k0_pay427, k0_pay428, k0_pay429, k0_pay430, k0_pay431, k0_pay432, k0_pay433, k0_pay434,
    k0_pay435, k0_pay436, k0_pay437, k0_pay438, k0_pay439, k0_pay440, k0_pay441, k0_pay442, k0_pay443, k0_pay444,
    k0_pay445, k0_pay446, k0_pay447, k0_pay448, k0_pay449, k0_pay450, k0_pay451, k0_pay452, k0_pay453, k0_pay454,
    k0_pay455, k0_pay456, k0_pay457, k0_pay458, k0_pay459, k0_pay460, k0_pay461, k0_pay462, k0_pay463, k0_pay464,
    k0_pay465, k0_pay466, k0_pay467, k0_pay468, k0_pay469, k0_pay470, k0_pay471, k0_pay472, k0_pay473, k0_pay474,
    k0_pay475, k0_pay476, k0_pay477, k0_pay478, k0_pay479, k0_pay480, k0_pay481, k0_pay482, k0_pay483, k0_pay484,
    k0_pay485, k0_pay486, k0_pay487, k0_pay488, k0_pay489, k0_pay490, k0_pay491, k0_pay492, k0_pay493, k0_pay494,
    k0_pay495, k0_pay496, k0_pay497, k0_pay498, k0_pay499, k0_pay500, k0_pay501, k0_pay502, k0_pay503, k0_pay504,
    k0_pay505, k0_pay506, k0_pay507, k0_pay508, k0_pay509, k0_pay510, k0_pay511, k0_pay512, k0_pay513, k0_pay514,
    k0_pay515, k0_pay516, k0_pay517, k0_pay518, k0_pay519, k0_pay520, k0_pay521, k0_pay522, k0_pay523, k0_pay524,
    k0_pay525, k0_pay526, k0_pay527, k0_pay528, k0_pay529, k0_pay530, k0_pay531, k0_pay532, k0_pay533, k0_pay534,
    k0_pay535, k0_pay536, k0_pay537, k0_pay538, k0_pay539, k0_pay540, k0_pay541, k0_pay542, k0_pay543, k0_pay544,
    k0_pay545, k0_pay546, k0_pay547, k0_pay548, k0_pay549, k0_pay550, k0_pay551, k0_pay552, k0_pay553, k0_pay554,
    k0_pay555, k0_pay556, k0_pay557, k0_pay558, k0_pay559, k0_pay560, k0_pay561, k0_pay562, k0_pay563, k0_pay564,
    k0_pay565, k0_pay566, k0_pay567, k0_pay568, k0_pay569, k0_pay570, k0_pay571, k0_pay572, k0_pay573, k0_pay574,
    k0_pay575, k0_pay576, k0_pay577, k0_pay578, k0_pay579, k0_pay580, k0_pay581, k0_pay582, k0_pay583, k0_pay584,
    k0_pay585, k0_pay586, k0_pay587, k0_pay588, k0_pay589, k0_pay590, k0_pay591, k0_pay592, k0_pay593, k0_pay594,
    k0_pay595, k0_pay596, k0_pay597, k0_pay598, k0_pay599, k0_pay600, k0_pay601, k0_pay602, k0_pay603, k0_pay604,
    k0_pay605, k0_pay606, k0_pay607, k0_pay608, k0_pay609, k0_pay610, k0_pay611, k0_pay612, k0_pay613, k0_pay614,
    k0_pay615, k0_pay616, k0_pay617, k0_pay618, k0_pay619, k0_pay620, k0_pay621, k0_pay622, k0_pay623, k0_pay624,
    k0_pay625, k0_pay626, k0_pay627, k0_pay628, k0_pay629, k0_pay630, k0_pay631, k0_pay632, k0_pay633, k0_pay634,
    k0_pay635, k0_pay636, k0_pay637, k0_pay638, k0_pay639, k0_pay640, k0_pay641, k0_pay642, k0_pay643, k0_pay644,
    k0_pay645, k0_pay646, k0_pay647, k0_pay648, k0_pay649, k0_pay650, k0_pay651, k0_pay652, k0_pay653, k0_pay654,
    k0_pay655, k0_pay656, k0_pay657, k0_pay658, k0_pay659, k0_pay660, k0_pay661, k0_pay662, k0_pay663, k0_pay664,
    k0_pay665, k0_pay666, k0_pay667, k0_pay668, k0_pay669, k0_pay670, k0_pay671, k0_pay672, k0_pay673, k0_pay674,
    k0_pay675, k0_pay676, k0_pay677, k0_pay678, k0_pay679, k0_pay680, k0_pay681, k0_pay682, k0_pay683, k0_pay684,
    k0_pay685, k0_pay686, k0_pay687, k0_pay688, k0_pay689, k0_pay690, k0_pay691, k0_pay692, k0_pay693, k0_pay694,
    k0_pay695, k0_pay696, k0_pay697, k0_pay698, k0_pay699, k0_pay700, k0_pay701, k0_pay702, k0_pay703, k0_pay704,
    k0_pay705, k0_pay706, k0_pay707, k0_pay708, k0_pay709, k0_pay710, k0_pay711, k0_pay712, k0_pay713, k0_pay714,
    k0_pay715, k0_pay716, k0_pay717, k0_pay718, k0_pay719, k0_pay720, k0_pay721, k0_pay722, k0_pay723, k0_pay724,
    k0_pay725, k0_pay726, k0_pay727, k0_pay728, k0_pay729, k0_pay730, k0_pay731, k0_pay732, k0_pay733, k0_pay734,
    k0_pay735, k0_pay736, k0_pay737, k0_pay738, k0_pay739, k0_pay740, k0_pay741, k0_pay742, k0_pay743, k0_pay744,
    k0_pay745, k0_pay746, k0_pay747, k0_pay748, k0_pay749, k0_pay750, k0_pay751, k0_pay752, k0_pay753, k0_pay754,
    k0_pay755, k0_pay756, k0_pay757, k0_pay758, k0_pay759, k0_pay760, k0_pay761, k0_pay762, k0_pay763, k0_pay764,
    k0_pay765, k0_pay766, k0_pay767, k0_pay768, k0_pay769, k0_pay770, k0_pay771, k0_pay772, k0_pay773, k0_pay774,
    k0_pay775, k0_pay776, k0_pay777, k0_pay778, k0_pay779, k0_pay780, k0_pay781, k0_pay782, k0_pay783, k0_pay784,
    k0_pay785, k0_pay786, k0_pay787, k0_pay788, k0_pay789, k0_pay790, k0_pay791, k0_pay792, k0_pay793, k0_pay794,
    k0_pay795, k0_pay796, k0_pay797, k0_pay798, k0_pay799, k0_pay800, k0_pay801, k0_pay802, k0_pay803, k0_pay804,
    k0_pay805, k0_pay806, k0_pay807, k0_pay808, k0_pay809, k0_pay810, k0_pay811, k0_pay812, k0_pay813, k0_pay814,
    k0_pay815, k0_pay816, k0_pay817, k0_pay818, k0_pay819, k0_pay820, k0_pay821, k0_pay822, k0_pay823, k0_pay824,
    k0_pay825, k0_pay826, k0_pay827, k0_pay828, k0_pay829, k0_pay830, k0_pay831, k0_pay832, k0_pay833, k0_pay834,
    k0_pay835, k0_pay836, k0_pay837, k0_pay838, k0_pay839, k0_pay840, k0_pay841, k0_pay842, k0_pay843, k0_pay844,
    k0_pay845, k0_pay846, k0_pay847, k0_pay848, k0_pay849, k0_pay850, k0_pay851, k0_pay852, k0_pay853, k0_pay854,
    k0_pay855, k0_pay856, k0_pay857, k0_pay858, k0_pay859, k0_pay860, k0_pay861, k0_pay862, k0_pay863, k0_pay864,
    k0_pay865, k0_pay866, k0_pay867, k0_pay868, k0_pay869, k0_pay870, k0_pay871, k0_pay872, k0_pay873, k0_pay874,
    k0_pay875, k0_pay876, k0_pay877, k0_pay878, k0_pay879, k0_pay880, k0_pay881, k0_pay882, k0_pay883, k0_pay884,
    k0_pay885, k0_pay886, k0_pay887, k0_pay888, k0_pay889, k0_pay890, k0_pay891, k0_pay892, k0_pay893, k0_pay894,
    k0_pay895, k0_pay896, k0_pay897, k0_pay898, k0_pay899, k0_pay900, k0_pay901, k0_pay902, k0_pay903, k0_pay904,
    k0_pay905, k0_pay906, k0_pay907, k0_pay908, k0_pay909, k0_pay910, k0_pay911, k0_pay912, k0_pay913, k0_pay914,
    k0_pay915, k0_pay916, k0_pay917, k0_pay918, k0_pay919, k0_pay920, k0_pay921, k0_pay922, k0_pay923, k0_pay924,
    k0_pay925, k0_pay926, k0_pay927, k0_pay928, k0_pay929, k0_pay930, k0_pay931, k0_pay932, k0_pay933, k0_pay934,
    k0_pay935, k0_pay936, k0_pay937, k0_pay938, k0_pay939, k0_pay940, k0_pay941, k0_pay942, k0_pay943, k0_pay944,
    k0_pay945, k0_pay946, k0_pay947, k0_pay948, k0_pay949, k0_pay950, k0_pay951, k0_pay952, k0_pay953, k0_pay954,
    k0_pay955, k0_pay956, k0_pay957, k0_pay958, k0_pay959, k0_pay960, k0_pay961, k0_pay962, k0_pay963, k0_pay964,
    k0_pay965, k0_pay966, k0_pay967, k0_pay968, k0_pay969, k0_pay970, k0_pay971, k0_pay972, k0_pay973, k0_pay974,
    k0_pay975, k0_pay976, k0_pay977, k0_pay978, k0_pay979, k0_pay980, k0_pay981, k0_pay982, k0_pay983, k0_pay984,
    k0_pay985, k0_pay986, k0_pay987, k0_pay988, k0_pay989, k0_pay990, k0_pay991, k0_pay992, k0_pay993, k0_pay994,
    k0_pay995, k0_pay996, k0_pay997, k0_pay998, k0_pay999, k0_pay1000, k0_pay1001, k0_pay1002, k0_pay1003, k0_pay1004,
    k0_pay1005, k0_pay1006, k0_pay1007, k0_pay1008, k0_pay1009, k0_pay1010, k0_pay1011, k0_pay1012, k0_pay1013,
    k0_pay1014, k0_pay1015, k0_pay1016, k0_pay1017, k0_pay1018, k0_pay1019, k0_pay1020, k0_pay1021, k0_pay1022,
    k0_pay1023, k0_pay1024, k0_pay1025, k0_pay1026, k0_pay1027, k0_pay1028, k0_pay1029, k0_pay1030, k0_pay1031,
    k0_pay1032, k0_pay1033, k0_pay1034, k0_pay1035, k0_pay1036, k0_pay1037, k0_pay1038, k0_pay1039, k0_pay1040,
    k0_pay1041, k0_pay1042, k0_pay1043, k0_pay1044, k0_pay1045, k0_pay1046, k0_pay1047, k0_pay1048, k0_pay1049,
    k0_pay1050, k0_pay1051, k0_pay1052, k0_pay1053, k0_pay1054, k0_pay1055, k0_pay1056, k0_pay1057, k0_pay1058,
    k0_pay1059, k0_pay1060, k0_pay1061, k0_pay1062, k0_pay1063, k0_pay1064, k0_pay1065, k0_pay1066, k0_pay1067,
    k0_pay1068, k0_pay1069, k0_pay1070, k0_pay1071, k0_pay1072, k0_pay1073, k0_pay1074, k0_pay1075, k0_pay1076,
    k0_pay1077, k0_pay1078, k0_pay1079, k0_pay1080, k0_pay1081, k0_pay1082, k0_pay1083, k0_pay1084, k0_pay1085,
    k0_pay1086, k0_pay1087, k0_pay1088, k0_pay1089, k0_pay1090, k0_pay1091, k0_pay1092]
  all_goals simp (config := { index := false }) only [harg1.read_unread, harg2.read_unread, harg3.read_unread, View.ld_unit_zero (S := S1x128x128) hz3, idx_eq x0 x1 x2, xs_eq x0 x1 x2, ts_eq x0 x1 x2, key_eq x0 x1 x2, part_0, part_1, part_2, part_3, part_4, part_5, part_6, part_7, part_8, part_9, part_10, part_11, part_12, part_13]
  all_goals simp (config := { index := false }) only [take_eq, stage_key, stage_idx, stage_xs, stage_ts]
  all_goals simp only [netV, mergeV]

end Cert.KernelIdeal.Sort
-- ==== Proof.Bitonic.lean ====
/-
  The bitonic sorting network on sequences indexed by the natural numbers, and the proof that it sorts.

  One level of the network works on aligned blocks of `2 ^ k` places. It compares places at distance `2 ^ (k-1)`,
  then `2 ^ (k-2)`, down to `1`; a block whose number is even is put in ascending order, the others in descending
  order. The proof looks at one threshold `c` at a time: the predicate `c < A j` turned round in the descending
  blocks is true on one interval of a block, or false on one interval of it, and stays so under a comparison stage.
-/
module

public import Mathlib.Order.Lattice
public import Mathlib.Data.Nat.Find
public import Mathlib.Tactic.Ring
public import Mathlib.Data.Fin.Basic
public import Mathlib.Order.Hom.Basic
public import Mathlib.Order.WellFounded

@[expose] public section

namespace Cert.Bitonic

/-- The place a comparison at distance `d` pairs with place `j`. -/
def partner (d j : ℕ) : ℕ := if j / d % 2 = 0 then j + d else j - d

/-- Whether place `j` keeps the smaller of the two in a stage of block size `K` and distance `d`. -/
def WantMin (K d j : ℕ) : Prop := (j / K % 2 = 0) ↔ (j / d % 2 = 0)

instance (K d j : ℕ) : Decidable (WantMin K d j) := by unfold WantMin; infer_instance

/-- One comparison stage. -/
def stage {α : Type*} [LinearOrder α] (K d : ℕ) (A : ℕ → α) (j : ℕ) : α :=
  if WantMin K d j then min (A j) (A (partner d j)) else max (A j) (A (partner d j))

/-- True on one interval of `[0, n)`, or false on one. -/
def Bito (f : ℕ → Prop) (n : ℕ) : Prop :=
  ∃ p q, (∀ r < n, f r ↔ (p ≤ r ∧ r < q)) ∨ (∀ r < n, f r ↔ ¬ (p ≤ r ∧ r < q))

/-- What a comparison at distance `d` does to an interval of `[0, 2d)`: the conjunction of the two halves is an
    interval, the disjunction is one or misses one, and the first is empty or the second is everything. -/
theorem interval_halves (p q d : ℕ) (hq : q ≤ 2 * d) :
    (∃ a b, ∀ r < d, ((p ≤ r ∧ r < q) ∧ (p ≤ r + d ∧ r + d < q)) ↔ (a ≤ r ∧ r < b))
    ∧ (∃ a b, (∀ r < d, ((p ≤ r ∧ r < q) ∨ (p ≤ r + d ∧ r + d < q)) ↔ (a ≤ r ∧ r < b))
        ∨ (∀ r < d, ((p ≤ r ∧ r < q) ∨ (p ≤ r + d ∧ r + d < q)) ↔ ¬ (a ≤ r ∧ r < b)))
    ∧ ((∀ r < d, ¬ ((p ≤ r ∧ r < q) ∧ (p ≤ r + d ∧ r + d < q)))
        ∨ (∀ r < d, (p ≤ r ∧ r < q) ∨ (p ≤ r + d ∧ r + d < q))) := by
  refine ⟨⟨p, q - d, fun r hr => by omega⟩, ?_, ?_⟩
  · by_cases h : p + d < q
    · exact ⟨0, d, .inl fun r hr => by omega⟩
    · by_cases h1 : q ≤ d
      · exact ⟨p, q, .inl fun r hr => by omega⟩
      · by_cases h2 : d ≤ p
        · exact ⟨p - d, q - d, .inl fun r hr => by omega⟩
        · exact ⟨q - d, p, .inr fun r hr => by omega⟩
  · by_cases h : p + d < q
    · exact .inr fun r hr => by omega
    · exact .inl fun r hr => by omega

/-- A comparison at distance `d` keeps both halves of a block of size `2d` of the interval kind, and afterwards the
    first half is nowhere true or the second is everywhere true. -/
theorem Bito.half {f lo hi : ℕ → Prop} {d : ℕ} (hf : Bito f (2 * d))
    (hlo : ∀ r < d, lo r ↔ (f r ∧ f (r + d))) (hhi : ∀ r < d, hi r ↔ (f r ∨ f (r + d))) :
    Bito lo d ∧ Bito hi d ∧ ((∀ r < d, ¬ lo r) ∨ (∀ r < d, hi r)) := by
  obtain ⟨p, q, h | h⟩ := hf
  · have e : ∀ r < 2 * d, f r ↔ (p ≤ r ∧ r < min q (2 * d)) := fun r hr => by rw [h r hr]; omega
    obtain ⟨⟨a, b, h1⟩, ⟨a', b', h2⟩, h3⟩ := interval_halves p (min q (2 * d)) d (by omega)
    have l : ∀ r < d, lo r ↔ _ := fun r hr => by rw [hlo r hr, e r (by omega), e (r + d) (by omega)]
    have u : ∀ r < d, hi r ↔ _ := fun r hr => by rw [hhi r hr, e r (by omega), e (r + d) (by omega)]
    refine ⟨⟨a, b, .inl fun r hr => (l r hr).trans (h1 r hr)⟩, ⟨a', b', ?_⟩, ?_⟩
    · exact h2.imp (fun h2 r hr => (u r hr).trans (h2 r hr)) (fun h2 r hr => (u r hr).trans (h2 r hr))
    · exact h3.imp (fun h3 r hr => (l r hr).not.mpr (h3 r hr)) (fun h3 r hr => (u r hr).mpr (h3 r hr))
  · have e : ∀ r < 2 * d, f r ↔ ¬ (p ≤ r ∧ r < min q (2 * d)) := fun r hr => by rw [h r hr]; omega
    obtain ⟨⟨a, b, h1⟩, ⟨a', b', h2⟩, h3⟩ := interval_halves p (min q (2 * d)) d (by omega)
    have l : ∀ r < d, lo r ↔ _ := fun r hr => by
      rw [hlo r hr, e r (by omega), e (r + d) (by omega), ← not_or]
    have u : ∀ r < d, hi r ↔ _ := fun r hr => by
      rw [hhi r hr, e r (by omega), e (r + d) (by omega), ← not_and_or]
    refine ⟨⟨a', b', ?_⟩, ⟨a, b, .inr fun r hr => (u r hr).trans (h1 r hr).not⟩, ?_⟩
    · rcases h2 with h2 | h2
      · exact .inr fun r hr => (l r hr).trans (h2 r hr).not
      · exact .inl fun r hr => (l r hr).trans ((h2 r hr).not.trans not_not)
    · rcases h3 with h3 | h3
      · exact .inr fun r hr => (u r hr).mpr (h3 r hr)
      · exact .inl fun r hr => (l r hr).not.mpr (not_not.mpr (h3 r hr))

/-- The state inside a level: blocks of size `d` are of the interval kind, and among the `e` blocks of one aligned
    group an earlier block lies below a later one. -/
def Inv (e d : ℕ) (C : ℕ → Prop) : Prop :=
  (∀ m, Bito (fun r => C (m * d + r)) d)
  ∧ ∀ m m' r r', r < d → r' < d → m < m' → m / e = m' / e → C (m * d + r) → C (m' * d + r')

/-- `C'` comes from `C` by a comparison at distance `d`, every block ascending. -/
def Half (d : ℕ) (C C' : ℕ → Prop) : Prop :=
  ∀ M r, r < d → (C' (2 * M * d + r) ↔ (C (M * (2 * d) + r) ∧ C (M * (2 * d) + (r + d))))
    ∧ (C' ((2 * M + 1) * d + r) ↔ (C (M * (2 * d) + r) ∨ C (M * (2 * d) + (r + d))))

theorem Inv.step {e d : ℕ} {C C' : ℕ → Prop} (h : Inv e (2 * d) C) (hC : Half d C C') : Inv (2 * e) d C' := by
  have key := fun M => (h.1 M).half (lo := fun r => C' (2 * M * d + r)) (hi := fun r => C' ((2 * M + 1) * d + r))
    (fun r hr => (hC M r hr).1) (fun r hr => (hC M r hr).2)
  refine ⟨fun m => ?_, fun m m' r r' hr hr' hm hg hc => ?_⟩
  · obtain ⟨M, rfl | rfl⟩ : ∃ M, m = 2 * M ∨ m = 2 * M + 1 := ⟨m / 2, by omega⟩
    · exact (key M).1
    · exact (key M).2.1
  · have hdiv : ∀ x, x / (2 * e) = x / 2 / e := fun x => (Nat.div_div_eq_div_mul x 2 e).symm
    rw [hdiv, hdiv] at hg
    obtain ⟨M, hM⟩ : ∃ M, m = 2 * M ∨ m = 2 * M + 1 := ⟨m / 2, by omega⟩
    obtain ⟨M', hM'⟩ : ∃ M', m' = 2 * M' ∨ m' = 2 * M' + 1 := ⟨m' / 2, by omega⟩
    have e1 : m / 2 = M := by omega
    have e2 : m' / 2 = M' := by omega
    rw [e1, e2] at hg
    rcases Nat.lt_or_ge M M' with hlt | hge
    · obtain ⟨s, hs, hcs⟩ : ∃ s, s < 2 * d ∧ C (M * (2 * d) + s) := by
        rcases hM with rfl | rfl
        · exact ⟨r, by omega, ((hC M r hr).1.mp hc).1⟩
        · rcases (hC M r hr).2.mp hc with h1 | h1
          · exact ⟨r, by omega, h1⟩
          · exact ⟨r + d, by omega, h1⟩
      have all : ∀ s' < 2 * d, C (M' * (2 * d) + s') := fun s' hs' => h.2 M M' s s' hs hs' hlt hg hcs
      rcases hM' with rfl | rfl
      · exact (hC M' r' hr').1.mpr ⟨all _ (by omega), all _ (by omega)⟩
      · exact (hC M' r' hr').2.mpr (.inl (all _ (by omega)))
    · have hb : m = 2 * M ∧ m' = 2 * M + 1 := by omega
      obtain ⟨rfl, rfl⟩ := hb
      rcases (key M).2.2 with h1 | h1
      · exact absurd hc (h1 r hr)
      · exact h1 r' hr'

/-- A predicate that stays true once true, on `[0, n)`, is true from some place on. -/
theorem exists_threshold (f : ℕ → Prop) : ∀ n, (∀ i j, i < j → j < n → f i → f j) → ∃ p ≤ n, ∀ r < n, f r ↔ p ≤ r
  | 0, _ => ⟨0, le_rfl, fun r hr => absurd hr (Nat.not_lt_zero r)⟩
  | n + 1, h => by
    obtain ⟨p, hp, hf⟩ := exists_threshold f n fun i j hij hj => h i j hij (by omega)
    by_cases hn : f n
    · refine ⟨p, by omega, fun r hr => ?_⟩
      rcases Nat.lt_or_ge r n with h1 | h1
      · exact hf r h1
      · obtain rfl : r = n := by omega
        exact iff_of_true hn hp
    · refine ⟨n + 1, le_rfl, fun r hr => ?_⟩
      refine iff_of_false (fun hfr => ?_) (by omega)
      rcases Nat.lt_or_ge r n with h1 | h1
      · exact hn (h r n h1 (by omega) hfr)
      · obtain rfl : r = n := by omega
        exact hn hfr

section
variable {α : Type*} [LinearOrder α]

/-- The predicate `c < A j`, turned round in the descending blocks of size `K`. -/
def Thr (K : ℕ) (A : ℕ → α) (c : α) (j : ℕ) : Prop := (c < A j) ↔ (j / K % 2 = 0)

theorem div_low (M d r : ℕ) (hr : r < d) : (2 * M * d + r) / d = 2 * M := by
  rw [Nat.add_comm, Nat.add_mul_div_right _ _ (by omega), Nat.div_eq_of_lt hr]; omega

theorem div_high (M d r : ℕ) (hr : r < d) : ((2 * M + 1) * d + r) / d = 2 * M + 1 := by
  rw [Nat.add_comm, Nat.add_mul_div_right _ _ (by omega), Nat.div_eq_of_lt hr]; omega

/-- A stage of block size `K = 2 d e` is an ascending comparison of the turned predicates. -/
theorem stage_half (e d : ℕ) (A : ℕ → α) (c : α) :
    Half d (Thr (2 * d * e) A c) (Thr (2 * d * e) (stage (2 * d * e) d A) c) := by
  intro M r hr
  have hd : 0 < d := by omega
  have hl : 2 * M * d + r = M * (2 * d) + r := by ring
  have hh : (2 * M + 1) * d + r = M * (2 * d) + (r + d) := by ring
  have gl : (M * (2 * d) + r) / (2 * d * e) = M / e := by
    rw [← Nat.div_div_eq_div_mul]; congr 1
    rw [Nat.add_comm, Nat.add_mul_div_right _ _ (by omega), Nat.div_eq_of_lt (by omega)]; omega
  have gh : (M * (2 * d) + (r + d)) / (2 * d * e) = M / e := by
    rw [← Nat.div_div_eq_div_mul]; congr 1
    rw [Nat.add_comm, Nat.add_mul_div_right _ _ (by omega), Nat.div_eq_of_lt (by omega)]; omega
  have dl : (M * (2 * d) + r) / d % 2 = 0 := by rw [← hl, div_low M d r hr]; omega
  have dh : (M * (2 * d) + (r + d)) / d % 2 = 1 := by rw [← hh, div_high M d r hr]; omega
  have pl : partner d (M * (2 * d) + r) = M * (2 * d) + (r + d) := by
    unfold partner; rw [if_pos dl]; omega
  have ph : partner d (M * (2 * d) + (r + d)) = M * (2 * d) + r := by
    unfold partner; rw [if_neg (by omega)]; omega
  have wl : WantMin (2 * d * e) d (M * (2 * d) + r) ↔ M / e % 2 = 0 := by unfold WantMin; rw [gl, dl]; simp
  have wh : WantMin (2 * d * e) d (M * (2 * d) + (r + d)) ↔ ¬ M / e % 2 = 0 := by unfold WantMin; rw [gh, dh]; simp
  rw [hl, hh]
  unfold Thr stage
  rw [gl, gh, pl, ph]
  by_cases ha : M / e % 2 = 0
  · rw [if_pos (wl.mpr ha), if_neg (fun h => wh.mp h ha)]
    simp [ha, lt_min_iff, lt_max_iff, or_comm]
  · rw [if_neg (fun h => ha (wl.mp h)), if_pos (wh.mpr ha)]
    simp only [ha, iff_false, lt_min_iff, lt_max_iff]
    refine ⟨by tauto, by tauto⟩

/-- The comparisons of one level of block size `2 ^ k` at the distances `2 ^ (s-1), …, 2, 1`. -/
def merge (k : ℕ) : ℕ → (ℕ → α) → (ℕ → α)
  | 0, A => A
  | s + 1, A => merge k s (stage (2 ^ k) (2 ^ s) A)

/-- The network's first `n` levels. -/
def net : ℕ → (ℕ → α) → (ℕ → α)
  | 0, A => A
  | n + 1, A => merge (n + 1) (n + 1) (net n A)

theorem merge_inv (k : ℕ) (c : α) : ∀ (s : ℕ) (A : ℕ → α), s ≤ k → Inv (2 ^ (k - s)) (2 ^ s) (Thr (2 ^ k) A c) →
    Inv (2 ^ k) 1 (Thr (2 ^ k) (merge k s A) c)
  | 0, A, _, h => by simpa [merge] using h
  | s + 1, A, hs, h => by
    have e1 : (2 : ℕ) ^ (s + 1) = 2 * 2 ^ s := by ring
    have e2 : (2 : ℕ) ^ k = 2 * 2 ^ s * 2 ^ (k - (s + 1)) := by
      rw [← e1, ← pow_add]; congr 1; omega
    have e3 : (2 : ℕ) ^ (k - s) = 2 * 2 ^ (k - (s + 1)) := by
      rw [← pow_succ']; congr 1; omega
    rw [merge]
    refine merge_inv k c s _ (by omega) ?_
    rw [e3]
    rw [e1] at h
    refine h.step ?_
    have := stage_half (2 ^ (k - (s + 1))) (2 ^ s) A c
    rwa [← e2] at this

/-- After `n` levels every block of size `2 ^ n` is in order, the even ones ascending and the others descending. -/
theorem net_inv (c : α) : ∀ (n : ℕ) (A : ℕ → α), Inv (2 ^ n) 1 (Thr (2 ^ n) (net n A) c)
  | 0, A => by
    refine ⟨fun m => ?_, fun m m' r r' _ _ hm hg _ => ?_⟩
    · by_cases h : Thr (2 ^ 0) (net 0 A) c (m * 1 + 0)
      · refine ⟨0, 1, .inl fun r hr => ?_⟩
        obtain rfl : r = 0 := by omega
        exact iff_of_true h (by omega)
      · refine ⟨0, 0, .inl fun r hr => ?_⟩
        obtain rfl : r = 0 := by omega
        exact iff_of_false h (by omega)
    · simp at hg; omega
  | n + 1, A => by
    rw [net]
    refine merge_inv (n + 1) c (n + 1) _ le_rfl ?_
    have ih := net_inv c n A
    generalize net n A = B at ih
    have hH : 0 < 2 ^ n := Nat.pos_of_ne_zero (by simp)
    have e1 : (2 : ℕ) ^ (n + 1) = 2 * 2 ^ n := by ring
    rw [Nat.sub_self, e1]
    generalize 2 ^ n = H at ih hH
    have ord : ∀ i j, i < j → i / H = j / H → Thr H B c i → Thr H B c j := fun i j hij hg hi => by
      have := ih.2 i j 0 0 (by omega) (by omega) hij hg
      simp only [Nat.mul_one, Nat.add_zero] at this
      exact this hi
    refine ⟨fun m => ?_, fun m m' r r' _ _ hm hg _ => ?_⟩
    · have dl : ∀ r < H, (m * (2 * H) + r) / H = 2 * m := fun r hr => by
        rw [show m * (2 * H) + r = 2 * m * H + r by ring]; exact div_low m H r hr
      have dh : ∀ r < H, (m * (2 * H) + (H + r)) / H = 2 * m + 1 := fun r hr => by
        rw [show m * (2 * H) + (H + r) = (2 * m + 1) * H + r by ring]; exact div_high m H r hr
      have dK : ∀ r < 2 * H, (m * (2 * H) + r) / (2 * H) = m := fun r hr => by
        rw [Nat.add_comm, Nat.add_mul_div_right _ _ (by omega), Nat.div_eq_of_lt hr]; omega
      obtain ⟨p, hp, hp'⟩ := exists_threshold (fun r => Thr H B c (m * (2 * H) + r)) H fun i j hij hj =>
        ord _ _ (by omega) (by rw [dl i (by omega), dl j hj])
      obtain ⟨q, hq, hq'⟩ := exists_threshold (fun r => Thr H B c (m * (2 * H) + (H + r))) H fun i j hij hj =>
        ord _ _ (by omega) (by rw [dh i (by omega), dh j hj])
      have hB : ∀ r < 2 * H, c < B (m * (2 * H) + r) ↔ (p ≤ r ∧ r < H + q) := fun r hr => by
        rcases Nat.lt_or_ge r H with h1 | h1
        · have := hp' r h1
          unfold Thr at this
          rw [dl r h1] at this
          have e0 : 2 * m % 2 = 0 := by omega
          simp only [e0, iff_true] at this
          rw [this]; omega
        · obtain ⟨t, rfl⟩ : ∃ t, r = H + t := ⟨r - H, by omega⟩
          have := hq' t (by omega)
          unfold Thr at this
          rw [dh t (by omega)] at this
          have e0 : ¬ ((2 * m + 1) % 2 = 0) := by omega
          simp only [e0, iff_false] at this
          rw [← not_iff_not, this]; omega
      refine ⟨p, H + q, ?_⟩
      by_cases hm : m % 2 = 0
      · refine .inl fun r hr => ?_
        show Thr _ _ _ _ ↔ _
        unfold Thr
        rw [dK r hr, hB r hr]
        simp [hm]
      · refine .inr fun r hr => ?_
        show Thr _ _ _ _ ↔ _
        unfold Thr
        rw [dK r hr, hB r hr]
        simp only [hm, iff_false]
    · simp at hg; omega

/-- The network sorts: of two places below `2 ^ n` the earlier holds the smaller. -/
theorem net_sorted (n : ℕ) (A : ℕ → α) (i j : ℕ) (hij : i < j) (hj : j < 2 ^ n) : net n A i ≤ net n A j := by
  refine le_of_forall_lt fun c hc => ?_
  have hi0 : i / 2 ^ n = 0 := Nat.div_eq_of_lt (by omega)
  have hj0 : j / 2 ^ n = 0 := Nat.div_eq_of_lt hj
  have h := (net_inv c n A).2 i j 0 0 (by omega) (by omega) hij (by rw [hi0, hj0])
  simp only [Nat.mul_one, Nat.add_zero] at h
  have hi : Thr (2 ^ n) (net n A) c i := by unfold Thr; rw [hi0]; simpa using hc
  have := h hi
  unfold Thr at this
  rw [hj0] at this
  simpa using this

end

end Cert.Bitonic
-- ==== Proof.Perm.lean ====
/-
  The sorting network acting on places: which source each place holds after the stages, that this is a permutation,
  and that a strictly increasing arrangement of a finite set of values is unique.
-/
module

public import proofs.«01_k».proof.Proof.Bitonic
public import Mathlib.Order.Fin.Basic
public import Mathlib.Order.WellFounded
public import Mathlib.Data.Fintype.EquivFin

@[expose] public section

namespace Cert.Bitonic

section
variable {α : Type*} [LinearOrder α]

/-- Whether a stage moves the partner's content to place `j`. -/
def Takes (v : ℕ → α) (K d : ℕ) (σ : ℕ → ℕ) (j : ℕ) : Prop := ¬ ((v (σ j) < v (σ (partner d j))) ↔ WantMin K d j)

instance (v : ℕ → α) (K d : ℕ) (σ : ℕ → ℕ) (j : ℕ) : Decidable (Takes v K d σ j) := by unfold Takes; infer_instance

/-- One stage on the sources. -/
def stageIdx (v : ℕ → α) (K d : ℕ) (σ : ℕ → ℕ) (j : ℕ) : ℕ := if Takes v K d σ j then σ (partner d j) else σ j

/-- The stages of a level on the sources. -/
def mergeIdx (v : ℕ → α) (k : ℕ) : ℕ → (ℕ → ℕ) → (ℕ → ℕ)
  | 0, σ => σ
  | s + 1, σ => mergeIdx v k s (stageIdx v (2 ^ k) (2 ^ s) σ)

/-- The first `n` levels on the sources. -/
def netIdx (v : ℕ → α) : ℕ → (ℕ → ℕ) → (ℕ → ℕ)
  | 0, σ => σ
  | n + 1, σ => mergeIdx v (n + 1) (n + 1) (netIdx v n σ)

theorem stageIdx_comp (v : ℕ → α) (K d : ℕ) (σ : ℕ → ℕ) :
    (fun j => v (stageIdx v K d σ j)) = stage K d (fun j => v (σ j)) := by
  funext j
  unfold stageIdx stage
  by_cases hw : WantMin K d j <;> by_cases hl : v (σ j) < v (σ (partner d j))
  · rw [if_neg (by unfold Takes; simp only [hl, hw]; simp), if_pos hw, min_eq_left hl.le]
  · rw [if_pos (by unfold Takes; simp only [hl, hw]; simp), if_pos hw, min_eq_right (not_lt.mp hl)]
  · rw [if_pos (by unfold Takes; simp only [hl, hw]; simp), if_neg hw, max_eq_right hl.le]
  · rw [if_neg (by unfold Takes; simp only [hl, hw]; simp), if_neg hw, max_eq_left (not_lt.mp hl)]

theorem mergeIdx_comp (v : ℕ → α) (k : ℕ) : ∀ (s : ℕ) (σ : ℕ → ℕ),
    (fun j => v (mergeIdx v k s σ j)) = merge k s (fun j => v (σ j))
  | 0, σ => rfl
  | s + 1, σ => by rw [mergeIdx, merge, mergeIdx_comp v k s, stageIdx_comp]

theorem netIdx_comp (v : ℕ → α) : ∀ (n : ℕ) (σ : ℕ → ℕ), (fun j => v (netIdx v n σ j)) = net n (fun j => v (σ j))
  | 0, σ => rfl
  | n + 1, σ => by rw [netIdx, net, mergeIdx_comp, netIdx_comp v n]

theorem partner_partner (s j : ℕ) : partner (2 ^ s) (partner (2 ^ s) j) = j := by
  have hd : 0 < 2 ^ s := Nat.two_pow_pos s
  unfold partner
  by_cases h : j / 2 ^ s % 2 = 0
  · have e : (j + 2 ^ s) / 2 ^ s = j / 2 ^ s + 1 := Nat.add_div_right _ hd
    rw [if_pos h, if_neg (by rw [e]; omega)]; omega
  · rw [if_neg h]
    have hge : 2 ^ s ≤ j := by
      by_contra hlt
      rw [Nat.div_eq_of_lt (by omega)] at h; omega
    have e : j / 2 ^ s = (j - 2 ^ s) / 2 ^ s + 1 := by
      conv_lhs => rw [show j = j - 2 ^ s + 2 ^ s by omega]
      exact Nat.add_div_right _ hd
    rw [if_pos (by omega)]; omega

theorem partner_div (s j : ℕ) : partner (2 ^ s) j / 2 ^ s % 2 = 0 ↔ ¬ j / 2 ^ s % 2 = 0 := by
  have hd : 0 < 2 ^ s := Nat.two_pow_pos s
  unfold partner
  by_cases h : j / 2 ^ s % 2 = 0
  · have e : (j + 2 ^ s) / 2 ^ s = j / 2 ^ s + 1 := Nat.add_div_right _ hd
    rw [if_pos h, e]; omega
  · have hge : 2 ^ s ≤ j := by
      by_contra hlt
      rw [Nat.div_eq_of_lt (by omega)] at h; omega
    have e : j / 2 ^ s = (j - 2 ^ s) / 2 ^ s + 1 := by
      conv_lhs => rw [show j = j - 2 ^ s + 2 ^ s by omega]
      exact Nat.add_div_right _ hd
    rw [if_neg h]; omega

theorem div_pow_add (j s m : ℕ) : j / 2 ^ (s + m) = j / 2 ^ s / 2 ^ m := by rw [Nat.div_div_eq_div_mul, pow_add]

/-- Partners lie in the same block of any larger size. -/
theorem partner_block (s k j : ℕ) (h : s < k) : partner (2 ^ s) j / 2 ^ k = j / 2 ^ k := by
  have hd : 0 < 2 ^ s := Nat.two_pow_pos s
  obtain ⟨m, rfl⟩ : ∃ m, k = s + (m + 1) := ⟨k - s - 1, by omega⟩
  have h2 : ∀ x : ℕ, x / 2 ^ (m + 1) = x / 2 / 2 ^ m := fun x => by rw [Nat.div_div_eq_div_mul, ← pow_succ']
  rw [div_pow_add (partner (2 ^ s) j) s (m + 1), div_pow_add j s (m + 1), h2, h2]
  congr 1
  unfold partner
  by_cases hz : j / 2 ^ s % 2 = 0
  · have e : (j + 2 ^ s) / 2 ^ s = j / 2 ^ s + 1 := Nat.add_div_right _ hd
    rw [if_pos hz, e]; omega
  · have hge : 2 ^ s ≤ j := by
      by_contra hlt
      rw [Nat.div_eq_of_lt (by omega)] at hz; omega
    have e : j / 2 ^ s = (j - 2 ^ s) / 2 ^ s + 1 := by
      conv_lhs => rw [show j = j - 2 ^ s + 2 ^ s by omega]
      exact Nat.add_div_right _ hd
    rw [if_neg hz]; omega

theorem partner_lt (s n j : ℕ) (h : s < n) (hj : j < 2 ^ n) : partner (2 ^ s) j < 2 ^ n := by
  have e := partner_block s n j h
  rw [Nat.div_eq_of_lt hj] at e
  rcases Nat.div_eq_zero_iff.mp e with h1 | h1
  · exact absurd h1 (Nat.two_pow_pos n).ne'
  · exact h1

theorem partner_ne (s j : ℕ) : partner (2 ^ s) j ≠ j := fun h => by
  have := partner_div s j
  rw [h] at this
  tauto

/-- The state: `σ` permutes the places below `2 ^ N`. -/
def Perm (N : ℕ) (σ : ℕ → ℕ) : Prop :=
  (∀ j < 2 ^ N, σ j < 2 ^ N) ∧ ∀ i < 2 ^ N, ∀ j < 2 ^ N, σ i = σ j → i = j

theorem stageIdx_perm {v : ℕ → α} (hv : Function.Injective v) {N k s : ℕ} (hs : s < k) (hk : k ≤ N) {σ : ℕ → ℕ}
    (h : Perm N σ) : Perm N (stageIdx v (2 ^ k) (2 ^ s) σ) := by
  have hp : ∀ j < 2 ^ N, partner (2 ^ s) j < 2 ^ N := fun j hj => partner_lt s N j (by omega) hj
  have hT : ∀ j < 2 ^ N, Takes v (2 ^ k) (2 ^ s) σ (partner (2 ^ s) j) ↔ Takes v (2 ^ k) (2 ^ s) σ j := by
    intro j hj
    have hne : v (σ (partner (2 ^ s) j)) ≠ v (σ j) := fun e =>
      partner_ne s j (h.2 _ (hp j hj) _ hj (hv e))
    have hw : WantMin (2 ^ k) (2 ^ s) (partner (2 ^ s) j) ↔ ¬ WantMin (2 ^ k) (2 ^ s) j := by
      unfold WantMin
      rw [partner_block s k j hs, partner_div]
      tauto
    unfold Takes
    rw [partner_partner, hw]
    have hc : v (σ (partner (2 ^ s) j)) < v (σ j) ↔ ¬ v (σ j) < v (σ (partner (2 ^ s) j)) :=
      ⟨fun a b => lt_asymm a b, fun a => lt_of_le_of_ne (not_lt.mp a) hne⟩
    rw [hc]
    tauto
  refine ⟨fun j hj => ?_, fun i hi j hj e => ?_⟩
  · unfold stageIdx
    split
    · exact h.1 _ (hp j hj)
    · exact h.1 _ hj
  · unfold stageIdx at e
    split at e <;> rename_i ti <;> split at e <;> rename_i tj
    · have := h.2 _ (hp i hi) _ (hp j hj) e
      rw [← partner_partner s i, this, partner_partner]
    · have := h.2 _ (hp i hi) _ hj e
      subst this
      exact absurd ((hT i hi).mpr ti) tj
    · have := h.2 _ hi _ (hp j hj) e
      subst this
      exact absurd ((hT j hj).mpr tj) ti
    · exact h.2 _ hi _ hj e

theorem mergeIdx_perm {v : ℕ → α} (hv : Function.Injective v) {N k : ℕ} (hk : k ≤ N) : ∀ {s : ℕ} {σ : ℕ → ℕ},
    s ≤ k → Perm N σ → Perm N (mergeIdx v k s σ)
  | 0, _, _, h => h
  | s + 1, σ, hs, h => mergeIdx_perm hv hk (s := s) (by omega) (stageIdx_perm hv (by omega) hk h)

theorem netIdx_perm {v : ℕ → α} (hv : Function.Injective v) {N : ℕ} : ∀ {n : ℕ} {σ : ℕ → ℕ},
    n ≤ N → Perm N σ → Perm N (netIdx v n σ)
  | 0, _, _, h => h
  | n + 1, _, hn, h => mergeIdx_perm hv hn le_rfl (netIdx_perm hv (n := n) (by omega) h)

/-- The network sorts: its sources permute the places and their values increase strictly. -/
theorem netIdx_sorted {v : ℕ → α} (hv : Function.Injective v) (N : ℕ) :
    Perm N (netIdx v N id) ∧ ∀ i j, i < j → j < 2 ^ N → v (netIdx v N id i) < v (netIdx v N id j) := by
  have hp : Perm N (netIdx v N id) := netIdx_perm hv le_rfl ⟨fun _ h => h, fun _ _ _ _ e => e⟩
  refine ⟨hp, fun i j hij hj => ?_⟩
  have h := net_sorted N (fun j => v (id j)) i j hij hj
  rw [← netIdx_comp] at h
  exact lt_of_le_of_ne h fun e => by
    have := hp.2 i (by omega) j hj (hv e)
    omega

/-- Two permutations whose values increase strictly are the same. -/
theorem sorted_unique {v : ℕ → α} {N : ℕ} {σ τ : ℕ → ℕ} (hv : Function.Injective v) (hσ : Perm N σ) (hτ : Perm N τ)
    (sσ : ∀ i j, i < j → j < 2 ^ N → v (σ i) < v (σ j)) (sτ : ∀ i j, i < j → j < 2 ^ N → v (τ i) < v (τ j)) :
    ∀ j < 2 ^ N, σ j = τ j := by
  have surj : ∀ {ρ : ℕ → ℕ}, Perm N ρ → ∀ a < 2 ^ N, ∃ j < 2 ^ N, ρ j = a := by
    intro ρ h a ha
    have hi : Function.Injective (fun x : Fin (2 ^ N) => (⟨ρ x, h.1 x x.2⟩ : Fin (2 ^ N))) := fun x y e =>
      Fin.ext (h.2 x x.2 y y.2 (by simpa using e))
    obtain ⟨x, hx⟩ := (Finite.injective_iff_surjective.mp hi) ⟨a, ha⟩
    exact ⟨x, x.2, by simpa using hx⟩
  have hf : StrictMono (fun x : Fin (2 ^ N) => v (σ x)) := fun x y h => sσ x y h y.2
  have hg : StrictMono (fun x : Fin (2 ^ N) => v (τ x)) := fun x y h => sτ x y h y.2
  have hr : Set.range (fun x : Fin (2 ^ N) => v (σ x)) = Set.range (fun x : Fin (2 ^ N) => v (τ x)) := by
    ext y
    constructor
    · rintro ⟨x, rfl⟩
      obtain ⟨j, hj, e⟩ := surj hτ (σ x) (hσ.1 x x.2)
      exact ⟨⟨j, hj⟩, by simp only [e]⟩
    · rintro ⟨x, rfl⟩
      obtain ⟨j, hj, e⟩ := surj hσ (τ x) (hτ.1 x x.2)
      exact ⟨⟨j, hj⟩, by simp only [e]⟩
  have := (StrictMono.range_inj hf hg).mp hr
  intro j hj
  exact hv (congrFun this ⟨j, hj⟩)

end

end Cert.Bitonic
-- ==== Proof.PlaneAt.lean ====
/-
  The planes of the sort read at a place: the partner plane is the plane at the partner's place.
-/
module

public import proofs.«01_k».proof.Proof.SortOut
public import proofs.«01_k».proof.Proof.Perm
public import Idealize.ShloMosaic.Lib.Pointwise

@[expose] public section

set_option maxRecDepth 65536

noncomputable section

namespace Cert.KernelIdeal.Sort

open Idealize.ShloMosaic Idealize.ShloMosaic.TcCoe Idealize.SL.Sem
open Cert.KernelIdeal Cert.KernelIdeal.Gen Cert.Bitonic

/-- The plane at place `n`, counted row by row. -/
def at' {α : Type} (A : S128x128.Idx → α) (n : ℕ) : α :=
  A (ix2 (⟨n / 128 % 128, Nat.mod_lt _ (by decide)⟩ : Fin 128) (⟨n % 128, Nat.mod_lt _ (by decide)⟩ : Fin 128))

theorem at_mk {α : Type} (A : S128x128.Idx → α) (r c : Fin 128) : at' A (r.val * 128 + c.val) = A (ix2 r c) := by
  unfold at'
  congr 2 <;> exact Fin.ext (by simp only; omega)

theorem col_word : ∀ (s : Fin 7) (c : Fin 128),
    (Scalar.select (IntOp.cmpi .slt (IntOp.xori (BitVec.ofNat 32 c.val) (BitVec.ofNat 32 (2 ^ s.val))) 0#32)
      (IntOp.addi (IntOp.xori (BitVec.ofNat 32 c.val) (BitVec.ofNat 32 (2 ^ s.val))) 128#32)
      (IntOp.xori (BitVec.ofNat 32 c.val) (BitVec.ofNat 32 (2 ^ s.val)))).toNat % 128 = partner (2 ^ s.val) c.val := by
  decide +kernel

theorem row_word : ∀ (s : Fin 7) (r : Fin 128),
    IntOp.cmpi .ne (IntOp.andi (BitVec.ofNat 32 r.val) (BitVec.ofNat 32 (2 ^ s.val))) 0#32
      = if r.val / 2 ^ s.val % 2 = 0 then 0#1 else 1#1 := by
  decide +kernel

theorem partner_col (s : Fin 7) (r c : Fin 128) :
    partner (2 ^ s.val) (r.val * 128 + c.val) = r.val * 128 + partner (2 ^ s.val) c.val := by
  have hc := c.isLt
  unfold partner
  fin_cases s <;> simp only [] <;> split <;> split <;> omega

/-- An exchange of columns, read at a place. -/
theorem col_at {α : Type} (s : Fin 7) (A : S128x128.Idx → α) (r c : Fin 128) :
    colP (BitVec.ofNat 32 (2 ^ s.val)) A (ix2 r c) = at' A (partner (2 ^ s.val) (r.val * 128 + c.val)) := by
  have h := col_word s c
  have hlt : partner (2 ^ s.val) c.val < 128 := h ▸ Nat.mod_lt _ (by decide)
  have e := at_mk A r ⟨partner (2 ^ s.val) c.val, hlt⟩
  rw [partner_col, e]
  unfold colP
  pointwise
  congr 2
  exact Fin.ext h

/-- An exchange of rows, read at a place, from what its two rotations hold. -/
theorem row_at {α : Type} (s : Fin 7) (A B C : S128x128.Idx → α) (w : BitVec 32) (d : ℕ)
    (hd : d = 2 ^ s.val) (hw : w = BitVec.ofNat 32 d)
    (r c : Fin 128)
    (hB : ∀ h : d ≤ r.val, B (ix2 r c) = A (ix2 (⟨r.val - d, Nat.lt_of_le_of_lt (Nat.sub_le _ _) r.isLt⟩ : Fin 128) c))
    (hC : ∀ h : r.val + d < 128, C (ix2 r c) = A (ix2 (⟨r.val + d, h⟩ : Fin 128) c)) :
    select (cmpi .ne (andi rowV (broadcast S128x128 w)) (broadcast S128x128 0#32)) B C (ix2 r c)
      = at' A (partner (2 ^ (s.val + 7)) (r.val * 128 + c.val)) := by
  have hc := c.isLt
  have hr := r.isLt
  subst hw hd
  pointwise
  have h := row_word s r
  by_cases hz : r.val / 2 ^ s.val % 2 = 0
  · rw [if_pos hz] at h
    have hlt : r.val + 2 ^ s.val < 128 := by fin_cases s <;> simp only [] at hz ⊢ <;> omega
    have hp : partner (2 ^ (s.val + 7)) (r.val * 128 + c.val) = (r.val + 2 ^ s.val) * 128 + c.val := by
      unfold partner
      rw [if_pos (by fin_cases s <;> simp only [] at hz ⊢ <;> omega), pow_add]; ring
    rw [hp, at_mk A ⟨_, hlt⟩ c, ← hC hlt]
    rw [h]; rfl
  · rw [if_neg hz] at h
    have hle : 2 ^ s.val ≤ r.val := by fin_cases s <;> simp only [] at hz ⊢ <;> omega
    have hp : partner (2 ^ (s.val + 7)) (r.val * 128 + c.val) = (r.val - 2 ^ s.val) * 128 + c.val := by
      unfold partner
      rw [if_neg (by fin_cases s <;> simp only [] at hz ⊢ <;> omega), pow_add]
      fin_cases s <;> simp only [] at hle ⊢ <;> omega
    rw [hp, at_mk A ⟨_, Nat.lt_of_le_of_lt (Nat.sub_le _ _) hr⟩ c, ← hB hle]
    rw [h]; rfl

/-- The partner plane holds at each place what the plane holds at the partner's place. -/
theorem part_at {α : Type} (s : ℕ) (hs : s < 14) (A : S128x128.Idx → α) (r c : Fin 128) :
    partV s A (ix2 r c) = at' A (partner (2 ^ s) (r.val * 128 + c.val)) := by
  have hr := r.isLt
  rcases Nat.lt_or_ge s 7 with h | h
  · have := col_at ⟨s, h⟩ A r c
    rw [← this]
    interval_cases s <;> rfl
  · obtain ⟨q, rfl⟩ : ∃ q, s = q + 7 := ⟨s - 7, by omega⟩
    have hq : q < 7 := by omega
    interval_cases q <;> [refine row_at 0 A _ _ _ 1 rfl rfl r c ?_ ?_; refine row_at 1 A _ _ _ 2 rfl rfl r c ?_ ?_;
        refine row_at 2 A _ _ _ 4 rfl rfl r c ?_ ?_; refine row_at 3 A _ _ _ 8 rfl rfl r c ?_ ?_;
        refine row_at 4 A _ _ _ 16 rfl rfl r c ?_ ?_; refine row_at 5 A _ _ _ 32 rfl rfl r c ?_ ?_;
        refine row_at 6 A _ _ _ 64 rfl rfl r c ?_ ?_] <;> intro h
    all_goals
      pointwise
      split <;> first
        | rfl
        | (congr 2; exact Fin.ext (by simp only; omega))
        | (exfalso; omega)

end Cert.KernelIdeal.Sort
-- ==== Proof.Sorted.lean ====
/-
  The sort's planes through the stages over the extended reals: at every stage they hold the starting planes at
  permuted places, and at the end the places in the order of (key, place).
-/
module

public import proofs.«01_k».proof.Proof.PlaneAt
public import Mathlib.Data.Prod.Lex
public import Mathlib.Data.EReal.Basic

@[expose] public section

set_option maxRecDepth 65536

noncomputable section

namespace Cert.KernelIdeal.Sort

open Idealize.ShloMosaic Idealize.ShloMosaic.TcCoe Idealize.SL.Sem
open Cert.KernelIdeal Cert.KernelIdeal.Gen Cert.Bitonic

/-- What is ordered: the key, then the place. -/
def rank (k : ℕ → EReal) (a : ℕ) : EReal ×ₗ ℕ := toLex (k a, a)

theorem rank_inj (k : ℕ → EReal) : Function.Injective (rank k) := fun a b h =>
  congrArg (fun x : EReal ×ₗ ℕ => (ofLex x).2) h

theorem rank_lt (k : ℕ → EReal) (a b : ℕ) : rank k a < rank k b ↔ k a < k b ∨ k a = k b ∧ a < b := by
  unfold rank
  rw [Prod.Lex.toLex_lt_toLex]

theorem place_word (r c : Fin 128) :
    IntOp.addi (IntOp.muli (BitVec.ofNat 32 r.val) 128#32) (BitVec.ofNat 32 c.val) = BitVec.ofNat 32 (r.val * 128 + c.val) := by
  rw [BitVec.ofNat_add, BitVec.ofNat_mul]; rfl

theorem bit_word (n k : ℕ) (hn : n < 2 ^ 14) (hk : k ≤ 14) :
    IntOp.cmpi .eq (IntOp.andi (BitVec.ofNat 32 n) (BitVec.ofNat 32 (2 ^ k))) 0#32
      = BitVec.ofBool (decide (n / 2 ^ k % 2 = 0)) := by
  have hk2 : 2 ^ k < 2 ^ 32 := Nat.pow_lt_pow_right (by decide) (by omega)
  have hpos : 0 < 2 ^ k := Nat.two_pow_pos k
  have e : (BitVec.ofNat 32 n &&& BitVec.ofNat 32 (2 ^ k)) = 0#32 ↔ n / 2 ^ k % 2 = 0 := by
    rw [← BitVec.toNat_inj, BitVec.toNat_and, BitVec.toNat_ofNat, BitVec.toNat_ofNat, BitVec.toNat_ofNat,
      Nat.mod_eq_of_lt (by omega : n < 2 ^ 32), Nat.mod_eq_of_lt hk2]
    have ht : n.testBit k = false ↔ n / 2 ^ k % 2 = 0 := by
      rw [Nat.testBit_eq_decide_div_mod_eq, decide_eq_false_iff_not]; omega
    rw [← ht]
    refine ⟨fun h => ?_, fun h => Nat.eq_of_testBit_eq fun i => ?_⟩
    · have := congrArg (fun x => Nat.testBit x k) h
      simpa [Nat.testBit_and, Nat.testBit_two_pow] using this
    · rw [Nat.testBit_and, Nat.testBit_two_pow]
      by_cases hi : k = i
      · subst hi; simp [h]
      · simp [hi]
  show BitVec.ofBool ((BitVec.ofNat 32 n &&& BitVec.ofNat 32 (2 ^ k)) == 0#32) = _
  congr 1
  rw [Bool.eq_iff_iff, beq_iff_eq, decide_eq_true_iff]
  exact e

theorem lt_word (a b : ℕ) (ha : a < 2 ^ 14) (hb : b < 2 ^ 14) :
    IntOp.cmpi .slt (BitVec.ofNat 32 a) (BitVec.ofNat 32 b) = BitVec.ofBool (decide (a < b)) := by
  have e : ∀ x : ℕ, x < 2 ^ 14 → (BitVec.ofNat 32 x).toInt = x := fun x hx => by
    rw [BitVec.toInt_eq_toNat_of_lt (by rw [BitVec.toNat_ofNat]; omega), BitVec.toNat_ofNat, Nat.mod_eq_of_lt (by omega)]
  show BitVec.ofBool (BitVec.slt _ _) = _
  unfold BitVec.slt
  rw [e a ha, e b hb]
  congr 1
  simp

theorem take_bits (a b c d e : Bool) :
    IntOp.xori (IntOp.ori (BitVec.ofBool a) (IntOp.andi (BitVec.ofBool b) (BitVec.ofBool c)))
      (IntOp.xori (IntOp.xori (BitVec.ofBool d) (BitVec.ofBool e)) 1#1)
      = BitVec.ofBool (xor (a || (b && c)) (xor (xor d e) true)) := by
  revert a b c d e; decide

/-- The planes hold the starting planes at the places `σ`. -/
structure Holds (k x t : ℕ → EReal) (p : Planes Ideal) (σ : ℕ → ℕ) : Prop where
  perm : Perm 14 σ
  key : ∀ r c : Fin 128, p.key (ix2 r c) = k (σ (r.val * 128 + c.val))
  idx : ∀ r c : Fin 128, p.idx (ix2 r c) = BitVec.ofNat 32 (σ (r.val * 128 + c.val))
  xs : ∀ r c : Fin 128, p.xs (ix2 r c) = x (σ (r.val * 128 + c.val))
  ts : ∀ r c : Fin 128, p.ts (ix2 r c) = t (σ (r.val * 128 + c.val))

theorem part_of {α : Type} {A : S128x128.Idx → α} {f : ℕ → α} (h : ∀ r c : Fin 128, A (ix2 r c) = f (r.val * 128 + c.val))
    (s : ℕ) (hs : s < 14) (r c : Fin 128) : partV s A (ix2 r c) = f (partner (2 ^ s) (r.val * 128 + c.val)) := by
  have hlt : partner (2 ^ s) (r.val * 128 + c.val) < 2 ^ 14 := partner_lt s 14 _ hs (by omega)
  rw [part_at s hs, at', h]
  congr 1
  simp only
  omega

theorem take_at {k x t : ℕ → EReal} {p : Planes Ideal} {σ : ℕ → ℕ} (h : Holds k x t p σ) {j : IVec S128x128 32}
    (hj : ∀ r c : Fin 128, j (ix2 r c) = BitVec.ofNat 32 (r.val * 128 + c.val)) (K s : ℕ) (hK : K ≤ 14) (hs : s < K)
    (r c : Fin 128) :
    takeV j K s p.key p.idx (ix2 r c)
      = BitVec.ofBool (decide (Takes (rank k) (2 ^ K) (2 ^ s) σ (r.val * 128 + c.val))) := by
  have hn : r.val * 128 + c.val < 2 ^ 14 := by omega
  have hlt : partner (2 ^ s) (r.val * 128 + c.val) < 2 ^ 14 := partner_lt s 14 _ (by omega) hn
  have eK := part_of (A := p.key) (f := fun n => k (σ n)) h.key s (by omega) r c
  have eI := part_of (A := p.idx) (f := fun n => BitVec.ofNat 32 (σ n)) h.idx s (by omega) r c
  unfold takeV bitV
  pointwise
  rw [eK, eI, h.key, h.idx, hj, bit_word _ _ hn hK, bit_word _ _ hn (by omega), lt_word _ _ (h.perm.1 _ hn) (h.perm.1 _ hlt),
    take_bits]
  congr 1
  rw [Bool.eq_iff_iff, decide_eq_true_iff]
  unfold Takes WantMin
  rw [rank_lt]
  by_cases h1 : k (σ (r.val * 128 + c.val)) < k (σ (partner (2 ^ s) (r.val * 128 + c.val))) <;>
  by_cases h2 : k (σ (r.val * 128 + c.val)) = k (σ (partner (2 ^ s) (r.val * 128 + c.val))) <;>
  by_cases h3 : σ (r.val * 128 + c.val) < σ (partner (2 ^ s) (r.val * 128 + c.val)) <;>
  by_cases h4 : (r.val * 128 + c.val) / 2 ^ K % 2 = 0 <;>
  by_cases h5 : (r.val * 128 + c.val) / 2 ^ s % 2 = 0 <;>
  simp [h1, h2, h3, h4, h5]

theorem select_of {α : Type} {c : IVec S128x128 1} {A B : S128x128.Idx → α} (i : S128x128.Idx) (P : Prop) [Decidable P]
    (hc : c i = BitVec.ofBool (decide P)) : select c A B i = if P then A i else B i := by
  show Scalar.select (c i) (A i) (B i) = _
  rw [hc]
  by_cases h : P <;> simp [h, Scalar.select]

theorem stage_holds {k x t : ℕ → EReal} {p : Planes Ideal} {σ : ℕ → ℕ} (h : Holds k x t p σ) {j : IVec S128x128 32}
    (hj : ∀ r c : Fin 128, j (ix2 r c) = BitVec.ofNat 32 (r.val * 128 + c.val)) (K s : ℕ) (hK : K ≤ 14) (hs : s < K) :
    Holds k x t (stageV j K s p) (stageIdx (rank k) (2 ^ K) (2 ^ s) σ) where
  perm := stageIdx_perm (rank_inj k) hs hK h.perm
  key r c := by
    rw [← stage_key, select_of _ _ (take_at h hj K s hK hs r c), h.key,
      part_of (A := p.key) (f := fun n => k (σ n)) h.key s (by omega) r c, stageIdx]
    split <;> rfl
  idx r c := by
    rw [← stage_idx, select_of _ _ (take_at h hj K s hK hs r c), h.idx,
      part_of (A := p.idx) (f := fun n => BitVec.ofNat 32 (σ n)) h.idx s (by omega) r c, stageIdx]
    split <;> rfl
  xs r c := by
    rw [← stage_xs, select_of _ _ (take_at h hj K s hK hs r c), h.xs,
      part_of (A := p.xs) (f := fun n => x (σ n)) h.xs s (by omega) r c, stageIdx]
    split <;> rfl
  ts r c := by
    rw [← stage_ts, select_of _ _ (take_at h hj K s hK hs r c), h.ts,
      part_of (A := p.ts) (f := fun n => t (σ n)) h.ts s (by omega) r c, stageIdx]
    split <;> rfl

theorem merge_holds {k x t : ℕ → EReal} {j : IVec S128x128 32}
    (hj : ∀ r c : Fin 128, j (ix2 r c) = BitVec.ofNat 32 (r.val * 128 + c.val)) (K : ℕ) (hK : K ≤ 14) :
    ∀ (s : ℕ) {p : Planes Ideal} {σ : ℕ → ℕ}, s ≤ K → Holds k x t p σ →
      Holds k x t (mergeV j K s p) (mergeIdx (rank k) K s σ)
  | 0, _, _, _, h => h
  | s + 1, _, _, hs, h => merge_holds hj K hK s (by omega) (stage_holds h hj K s hK (by omega))

theorem net_holds {k x t : ℕ → EReal} {j : IVec S128x128 32}
    (hj : ∀ r c : Fin 128, j (ix2 r c) = BitVec.ofNat 32 (r.val * 128 + c.val)) :
    ∀ (n : ℕ) {p : Planes Ideal} {σ : ℕ → ℕ}, n ≤ 14 → Holds k x t p σ →
      Holds k x t (netV j n p) (netIdx (rank k) n σ)
  | 0, _, _, _, h => h
  | n + 1, _, _, hn, h => merge_holds hj (n + 1) hn (n + 1) le_rfl (net_holds hj n (by omega) h)

/-- The starting key at place `n`. -/
def keyOf (t m : ℕ → EReal) (n : ℕ) : EReal :=
  if n < 12288 then (if 0 < m n then t n else Ideal.ofBits .f32 0x4B18967F#32) else Ideal.ofBits .f32 0x501502F9#32

/-- A block at place `n`. -/
def blk (x : Vec Ideal S1x128x128 .f32) (n : ℕ) : EReal := at' (fun i => x (ix3 (0 : Fin 1) (i 0) (i 1))) n

theorem blk_mk (x : Vec Ideal S1x128x128 .f32) (r c : Fin 128) : blk x (r.val * 128 + c.val) = x (ix3 (0 : Fin 1) r c) :=
  at_mk _ r c

theorem start_holds (x0 x1 x2 : Vec Ideal S1x128x128 .f32) :
    Holds (keyOf (blk x0) (blk x1)) (blk x2) (blk x0) (start x0 x1 x2) id where
  perm := ⟨fun _ h => h, fun _ _ _ _ e => e⟩
  key r c := by
    simp only [start, k0_pay6, k0_pay9, k0_pay8]
    pointwise
    rw [place_word, lt_word _ 12288 (by omega) (by decide)]
    unfold keyOf
    rw [id, blk_mk, blk_mk]
    by_cases h : r.val * 128 + c.val < 12288 <;> simp [h, Scalar.select]
  idx r c := by
    simp only [start, k0_pay8]
    pointwise
    exact place_word r c
  xs r c := by
    simp only [start, k0_pay7]
    pointwise
    exact (blk_mk x2 r c).symm
  ts r c := by
    simp only [start, k0_pay6]
    pointwise
    exact (blk_mk x0 r c).symm

/-- The source of each place after the whole sort. -/
def src (x0 x1 : Vec Ideal S1x128x128 .f32) : ℕ → ℕ := netIdx (rank (keyOf (blk x0) (blk x1))) 14 id

theorem last_holds (x0 x1 x2 : Vec Ideal S1x128x128 .f32) :
    Holds (keyOf (blk x0) (blk x1)) (blk x2) (blk x0) (last x0 x1 x2) (src x0 x1) :=
  net_holds (start_holds x0 x1 x2).idx 14 le_rfl (start_holds x0 x1 x2)

theorem src_sorted (x0 x1 : Vec Ideal S1x128x128 .f32) : Perm 14 (src x0 x1)
    ∧ ∀ i j, i < j → j < 2 ^ 14 → rank (keyOf (blk x0) (blk x1)) (src x0 x1 i) < rank (keyOf (blk x0) (blk x1)) (src x0 x1 j) :=
  netIdx_sorted (rank_inj _) 14

end Cert.KernelIdeal.Sort
-- ==== Proof.Film.lean ====
/-
  One block of the film call over the extended reals: what it holds for one token and one channel.
-/
module

public import proofs.«01_k».proof.Proof.Sorted

@[expose] public section

set_option maxRecDepth 65536

noncomputable section

namespace Cert.KernelIdeal.Film

open Idealize.ShloMosaic Idealize.ShloMosaic.TcCoe Idealize.SL.Sem
open Cert.KernelIdeal Cert.KernelIdeal.Gen

/-- The kernel's base frequency, `2 π / 1500`. -/
def freq : EReal := Named.named (F := Ideal) (φ := .f32) κ "base_frequency" 0x3B89421E#32

/-- Feature `q` of time `T`: the sine of harmonic `q + 1` for the first 16, the cosine of harmonic `q - 15` after. -/
def feat (T : EReal) (q : ℕ) : EReal :=
  if q < 16 then Ideal.sin (T * (((q % 16 + 1 : ℕ) : ℝ) * freq)) else Ideal.cos (T * (((q % 16 + 1 : ℕ) : ℝ) * freq))

theorem sitofp_small : ∀ n : ℕ, n < 2 ^ 14 → (FloatOps.sitofp (F := Ideal) .f32 (BitVec.ofNat 32 n) : EReal) = ((n : ℝ) : EReal) := by
  intro n hn
  have e : (BitVec.ofNat 32 n).toInt = n := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]; norm_cast

theorem arg_at (x0 : Vec Ideal S1x1x1x1024 .f32) (q : Fin 32) (n : Fin 1024) :
    k1_pay3 x0 (ix2 q n) = x0 (ix4 (0 : Fin 1) (0 : Fin 1) (0 : Fin 1) n) * (((q.val % 16 + 1 : ℕ) : ℝ) * freq) := by
  rw [← sitofp_small (q.val % 16 + 1) (by omega)]
  unfold k1_pay3 freq
  pointwise
  congr 3
  revert q
  decide +kernel

theorem feat_at (x0 : Vec Ideal S1x1x1x1024 .f32) (q : Fin 32) (n : Fin 1024) :
    k1_pay7 k1_pay4 (k1_pay5 x0) (k1_pay6 x0) (ix2 q n) = feat (x0 (ix4 (0 : Fin 1) (0 : Fin 1) (0 : Fin 1) n)) q.val := by
  have hw : ∀ q : Fin 32, IntOp.cmpi .slt (BitVec.ofNat 32 q.val) 16#32 = BitVec.ofBool (decide (q.val < 16)) := by decide +kernel
  unfold k1_pay7 k1_pay6 k1_pay5 k1_pay4 feat
  pointwise
  rw [arg_at, hw]
  by_cases h : q.val < 16 <;> simp [h, Scalar.select]

theorem band_word (a : ℕ) (ha : a < 12288) :
    IntOp.shrsi .vector (BitVec.ofNat 32 a) 11#32 = BitVec.ofNat 32 (a / 2048) := by
  have h1 : (BitVec.ofNat 32 a).msb = false := by
    rw [BitVec.msb_eq_false_iff_two_mul_lt, BitVec.toNat_ofNat]; omega
  show (BitVec.ofNat 32 a).sshiftRight _ = _
  rw [BitVec.sshiftRight_eq_of_msb_false h1]
  apply BitVec.eq_of_toNat_eq
  rw [BitVec.toNat_ushiftRight, BitVec.toNat_ofNat, BitVec.toNat_ofNat, Nat.shiftRight_eq_div_pow,
    Nat.mod_eq_of_lt (by omega : a < 2 ^ 32), Nat.mod_eq_of_lt (by omega)]
  rw [BitVec.toNat_ofNat, Nat.mod_eq_of_lt (by omega)]

theorem hot : ∀ b i : ℕ, b < 8 → i < 8 →
    (FloatOps.sitofp (F := Ideal) .f32 (BitVec.setWidth 32 (IntOp.cmpi .eq (BitVec.ofNat 32 b) (BitVec.ofNat 32 i))) : EReal)
      = if b = i then 1 else 0 := by
  intro b i hb hi
  have e : BitVec.setWidth 32 (IntOp.cmpi .eq (BitVec.ofNat 32 b) (BitVec.ofNat 32 i)) = BitVec.ofNat 32 (if b = i then 1 else 0) := by
    interval_cases b <;> interval_cases i <;> rfl
  rw [e, sitofp_small _ (by split <;> decide)]
  split <;> simp

theorem hz4 : (![0, 0, 0, 0] : Fin 4 → Nat) = fun _ => 0 := funext fun a => by fin_cases a <;> rfl

/-- What a block of the film call holds at token `n` and channel `c`, the token's source being `a`. -/
theorem out_at (x0 x1 : Vec Ideal S1x1x1x1024 .f32) (x2 : Vec Ideal S1x1x1x1024 .i32) (x3 : Vec Ideal S6x128x32 .f32)
    (x4 : Vec Ideal S64x8 .f32) (n : Fin 1024) (c : Fin 64) (a b : ℕ) (ha : a < 12288) (hb : b < 6)
    (hab : a / 2048 = b)
    (h2 : x2 (ix4 (0 : Fin 1) (0 : Fin 1) (0 : Fin 1) n) = BitVec.ofNat 32 a) :
    out1_5 x0 x1 x2 x3 x4 (ix3 (0 : Fin 1) n c)
      = x1 (ix4 (0 : Fin 1) (0 : Fin 1) (0 : Fin 1) n) * x4 (ix2 c (⟨b, by omega⟩ : Fin 8))
          * (∑ q : Fin 32, x3 (ix3 (⟨b, hb⟩ : Fin 6) (⟨c.val, by omega⟩ : Fin 128) q)
              * feat (x0 (ix4 (0 : Fin 1) (0 : Fin 1) (0 : Fin 1) n)) q.val)
        + ∑ q : Fin 32, x3 (ix3 (⟨b, hb⟩ : Fin 6) (⟨64 + c.val, by omega⟩ : Fin 128) q)
              * feat (x0 (ix4 (0 : Fin 1) (0 : Fin 1) (0 : Fin 1) n)) q.val := by
  unfold out1_5 k1_pay15 k1_pay14 k1_pay13 k1_pay12
  rw [View.canon_unit_zero Sort.hz3]
  unfold k1_pay11 k1_pay10 k1_pay9 k1_pay8 k1_pay2 k1_pay1
  pointwise
  have hld : View.ld x0 r1_0 = x0 := by
    unfold r1_0
    exact View.ld_unit_zero (S := S1x1x1x1024) (Val := Elt Ideal) (e := .f32) hz4 _ x0
  rw [hld]
  simp only [feat_at]
  rw [h2, band_word a ha, hab]
  simp (disch := omega) only [hot]
  interval_cases b <;> simp [Fin.sum_univ_eight]

end Cert.KernelIdeal.Film
-- ==== Proof.Arrays.lean ====
/-
  The arrays the two calls of the kernel leave, as functions of the arrays they find.
-/
module

public import proofs.«01_k».proof.Proof.Film
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Sort

variable (V : (c : Dev nD) → (b : Ref sig .tc) → Buf (Elt Ideal) ((c : Thread nD τ).loc b))

/-- Row `b` of an array of 16 planes, as one block. -/
def row {e : EltTy} (A : Vec Ideal S16x128x128 e) (b : Fin 16) : Vec Ideal S1x128x128 e :=
  fun y => A (ix3 b (y 1) (y 2))

theorem index0 : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] := by
  decide +kernel

theorem blk0_0 (c : Dev nD) (t : Fin cfg0.N) : iblk0 V c 0 t = row (V c main_v7) t := by
  funext y
  unfold row
  blk_ext [iblk0, (index0 t).1]

theorem blk0_1 (c : Dev nD) (t : Fin cfg0.N) : iblk0 V c 1 t = row (V c main_v11) t := by
  funext y
  unfold row
  blk_ext [iblk0, (index0 t).2.1]

theorem blk0_2 (c : Dev nD) (t : Fin cfg0.N) : iblk0 V c 2 t = row (V c main_v9) t := by
  funext y
  unfold row
  blk_ext [iblk0, (index0 t).2.2.1]

/-- The planes the sort leaves for batch `b`. -/
def planes (c : Dev nD) (b : Fin 16) : Planes Ideal :=
  last (row (V c main_v7) b) (row (V c main_v11) b) (row (V c main_v9) b)

theorem plane_block {e : EltTy} (A : Vec Ideal S128x128 e) (y : S1x128x128.Idx) :
    shapeCast S1x128x128 A shapeCasts_S128x128_S1x128x128 y = A (ix2 (y 1) (y 2)) := by
  idx_vars y
  pointwise

theorem arr0_3 (c : Dev nD) : (dat0 V c).arrAt 3 cfg0.N = fun i => (planes V c (i 0)).ts (ix2 (i 1) (i 2)) := by
  refine (dat0 V c).arrAt_eq_of_covers 3 _ (by decide +kernel) fun t hf y => ?_
  blk_simp
  rw [after0_3]
  unfold outsAt0
  dsimp only
  rw [(out_all c _ _ _ _ _ _ _ _ _ _ _ _ _ _ _ _ _ _ _ _).1, blk0_0, blk0_1, blk0_2]
  have h0 : (win0_3.blk t).view.emb y 0 = t := Fin.ext (by blk_simp [(index0 t).2.2.2.1])
  have h1 : (win0_3.blk t).view.emb y 1 = y 1 := Fin.ext (by blk_simp [(index0 t).2.2.2.1])
  have h2 : (win0_3.blk t).view.emb y 2 = y 2 := Fin.ext (by blk_simp [(index0 t).2.2.2.1])
  rw [h0, h1, h2]
  unfold planes
  exact plane_block (e := .f32) _ y

theorem arr0_4 (c : Dev nD) : (dat0 V c).arrAt 4 cfg0.N = fun i => maskOf (planes V c (i 0)).key (ix2 (i 1) (i 2)) := by
  refine (dat0 V c).arrAt_eq_of_covers 4 _ (by decide +kernel) fun t hf y => ?_
  blk_simp
  rw [after0_4]
  unfold outsAt0
  dsimp only
  rw [(out_all c _ _ _ _ _ _ _ _ _ _ _ _ _ _ _ _ _ _ _ _).2.1, blk0_0, blk0_1, blk0_2]
  have h0 : (win0_4.blk t).view.emb y 0 = t := Fin.ext (by blk_simp [(index0 t).2.2.2.2.1])
  have h1 : (win0_4.blk t).view.emb y 1 = y 1 := Fin.ext (by blk_simp [(index0 t).2.2.2.2.1])
  have h2 : (win0_4.blk t).view.emb y 2 = y 2 := Fin.ext (by blk_simp [(index0 t).2.2.2.2.1])
  rw [h0, h1, h2]
  unfold planes
  exact plane_block (e := .f32) _ y

theorem arr0_5 (c : Dev nD) : (dat0 V c).arrAt 5 cfg0.N = fun i => (planes V c (i 0)).xs (ix2 (i 1) (i 2)) := by
  refine (dat0 V c).arrAt_eq_of_covers 5 _ (by decide +kernel) fun t hf y => ?_
  blk_simp
  rw [after0_5]
  unfold outsAt0
  dsimp only
  rw [(out_all c _ _ _ _ _ _ _ _ _ _ _ _ _ _ _ _ _ _ _ _).2.2.1, blk0_0, blk0_1, blk0_2]
  have h0 : (win0_5.blk t).view.emb y 0 = t := Fin.ext (by blk_simp [(index0 t).2.2.2.2.2.1])
  have h1 : (win0_5.blk t).view.emb y 1 = y 1 := Fin.ext (by blk_simp [(index0 t).2.2.2.2.2.1])
  have h2 : (win0_5.blk t).view.emb y 2 = y 2 := Fin.ext (by blk_simp [(index0 t).2.2.2.2.2.1])
  rw [h0, h1, h2]
  unfold planes
  exact plane_block (e := .f32) _ y

theorem arr0_6 (c : Dev nD) : (dat0 V c).arrAt 6 cfg0.N = fun i => (planes V c (i 0)).idx (ix2 (i 1) (i 2)) := by
  refine (dat0 V c).arrAt_eq_of_covers 6 _ (by decide +kernel) fun t hf y => ?_
  blk_simp
  rw [after0_6]
  unfold outsAt0
  dsimp only
  rw [(out_all c _ _ _ _ _ _ _ _ _ _ _ _ _ _ _ _ _ _ _ _).2.2.2, blk0_0, blk0_1, blk0_2]
  have h0 : (win0_6.blk t).view.emb y 0 = t := Fin.ext (by blk_simp [(index0 t).2.2.2.2.2.2])
  have h1 : (win0_6.blk t).view.emb y 1 = y 1 := Fin.ext (by blk_simp [(index0 t).2.2.2.2.2.2])
  have h2 : (win0_6.blk t).view.emb y 2 = y 2 := Fin.ext (by blk_simp [(index0 t).2.2.2.2.2.2])
  rw [h0, h1, h2]
  unfold planes
  exact plane_block (e := .i32) _ y

/-- Run `j` of 1024 tokens of batch `b`, as one block. -/
def chunk {e : EltTy} (A : Vec Ideal S16x12x1x1024 e) (b : Fin 16) (j : Fin 12) : Vec Ideal S1x1x1x1024 e :=
  fun y => A (ix4 b j (0 : Fin 1) (y 3))

theorem index1 : ∀ t : Fin grid1.N, win1_0.index t = ![(grid1.coords t 0).val, (grid1.coords t 1).val, 0, 0]
    ∧ win1_1.index t = ![(grid1.coords t 0).val, (grid1.coords t 1).val, 0, 0]
    ∧ win1_2.index t = ![(grid1.coords t 0).val, (grid1.coords t 1).val, 0, 0]
    ∧ win1_3.index t = ![0, 0, 0] ∧ win1_4.index t = ![0, 0]
    ∧ win1_5.index t = ![(grid1.coords t 0).val, (grid1.coords t 1).val, 0] := by
  decide +kernel

theorem blk1_0 (c : Dev nD) (t : Fin cfg1.N) : iblk1 V c 0 t = chunk (V c main_v30) (grid1.coords t 0) (grid1.coords t 1) := by
  funext y
  unfold chunk
  blk_ext [iblk1, (index1 t).1]

theorem blk1_1 (c : Dev nD) (t : Fin cfg1.N) : iblk1 V c 1 t = chunk (V c main_v31) (grid1.coords t 0) (grid1.coords t 1) := by
  funext y
  unfold chunk
  blk_ext [iblk1, (index1 t).2.1]

theorem blk1_2 (c : Dev nD) (t : Fin cfg1.N) : iblk1 V c 2 t = chunk (V c main_v32) (grid1.coords t 0) (grid1.coords t 1) := by
  funext y
  unfold chunk
  blk_ext [iblk1, (index1 t).2.2.1]

theorem blk1_3 (c : Dev nD) (t : Fin cfg1.N) : iblk1 V c 3 t = (V c main_v24 : Vec Ideal S6x128x32 .f32) := by
  funext y
  blk_ext [iblk1, (index1 t).2.2.2.1]

theorem blk1_4 (c : Dev nD) (t : Fin cfg1.N) : iblk1 V c 4 t = (V c main_v29 : Vec Ideal S64x8 .f32) := by
  funext y
  blk_ext [iblk1, (index1 t).2.2.2.2.1]

/-- What the film call leaves for batch `b`, token `n` and channel `h`. -/
def filmAt (c : Dev nD) (b : Fin 16) (n : Fin 12288) (h : Fin 64) : EReal :=
  out1_5 (F := Ideal) (chunk (V c main_v30) b ⟨n.val / 1024, by omega⟩) (chunk (V c main_v31) b ⟨n.val / 1024, by omega⟩)
    (chunk (V c main_v32) b ⟨n.val / 1024, by omega⟩) (V c main_v24) (V c main_v29)
    (ix3 (0 : Fin 1) (⟨n.val % 1024, by omega⟩ : Fin 1024) h)

theorem film_block (c : Dev nD) (b : Fin 16) (j : Fin 12) (k : Fin 1024) (h : Fin 64) (n : Fin 12288)
    (hn : n.val = j.val * 1024 + k.val) :
    out1_5 (F := Ideal) (chunk (V c main_v30) b j) (chunk (V c main_v31) b j) (chunk (V c main_v32) b j) (V c main_v24) (V c main_v29)
      (ix3 (0 : Fin 1) k h) = filmAt V c b n h := by
  have hj : (⟨n.val / 1024, by omega⟩ : Fin 12) = j := Fin.ext (by change n.val / 1024 = j.val; omega)
  have hk : (⟨n.val % 1024, by omega⟩ : Fin 1024) = k := Fin.ext (by change n.val % 1024 = k.val; omega)
  unfold filmAt
  rw [hj, hk]

theorem arr1_5 (c : Dev nD) : (dat1 V c).arrAt 5 cfg1.N = fun i : S16x12288x64.Idx => filmAt V c (i 0) (i 1) (i 2) := by
  refine (dat1 V c).arrAt_eq_of_covers 5 _ (by decide +kernel) fun t hf y => ?_
  blk_simp
  rw [after1_5, blk1_0, blk1_1, blk1_2, blk1_3, blk1_4]
  have h0 : (win1_5.blk t).view.emb y 0 = grid1.coords t 0 := Fin.ext (by blk_simp [(index1 t).2.2.2.2.2])
  have h1 : ((win1_5.blk t).view.emb y 1).val = (grid1.coords t 1).val * 1024 + (y 1).val := by blk_simp [(index1 t).2.2.2.2.2]
  have h2 : (win1_5.blk t).view.emb y 2 = y 2 := Fin.ext (by blk_simp [(index1 t).2.2.2.2.2])
  have hi : y = ix3 (0 : Fin 1) (y 1) (y 2) := by
    funext a
    fin_cases a
    · exact Subsingleton.elim (α := Fin 1) _ _
    · rfl
    · rfl
  rw [h0, h2]
  refine (congrArg _ hi).trans ?_
  exact film_block V c _ _ _ _ _ h1

end Cert.KernelIdeal.Arrays
-- ==== Proof.Host.lean ====
/-
  What the host's operations around the two calls hold at an index.
-/
module

public import proofs.«01_k».proof.Proof.Arrays
public import Idealize.ShloMosaic.Lib.Pipeline.ValueKit
public import Idealize.ShloMosaic.Lib.StableHlo.ReadAt
public import Idealize.ShloMosaic.Lib.Routing.OpsSet

@[expose] public section

set_option maxRecDepth 16384

noncomputable section

namespace Cert.KernelIdeal.HostOps

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Token `n` of the flat order of [16, 2048, 6] arrays; zero past the end. -/
def flat (A : Vec Ideal S16x2048x6 .f32) (b : Fin 16) (n : ℕ) : EReal :=
  if h : n < 12288 then A (ix3 b ⟨n % 2048, by omega⟩ ⟨n / 2048, by omega⟩) else (FloatOps.sitofp (F := Ideal) FTy.f32 (0#32) : EReal)

theorem v7_at (c : Dev nD) (b : Fin 16) (r k : Fin 128) :
    W7 m ρ c main_v7 (ix3 b r k) = flat (m ((c : Thread nD τ).loc main_arg1)) b (r.val * 128 + k.val) := by
  unfold W7 W6 W5 W4 W3 W2 W1 W0 flat
  after_reads_at

theorem v9_at (c : Dev nD) (b : Fin 16) (r k : Fin 128) :
    W7 m ρ c main_v9 (ix3 b r k) = flat (m ((c : Thread nD τ).loc main_arg0)) b (r.val * 128 + k.val) := by
  unfold W7 W6 W5 W4 W3 W2 W1 W0 flat
  after_reads_at

theorem v11_at (c : Dev nD) (b : Fin 16) (r k : Fin 128) :
    W7 m ρ c main_v11 (ix3 b r k) = flat (m ((c : Thread nD τ).loc main_arg2)) b (r.val * 128 + k.val) := by
  unfold W7 W6 W5 W4 W3 W2 W1 W0 flat
  after_reads_at

theorem v14_at (c : Dev nD) (b : Fin 16) (n : Fin 12288) :
    W9 m ρ c main_v14 (ix2 b n) = W8 m ρ c main_v12_0 (ix3 b ⟨n.val / 128, by omega⟩ ⟨n.val % 128, by omega⟩) := by
  unfold W9
  after_reads_at

theorem v16_at (c : Dev nD) (b : Fin 16) (n : Fin 12288) :
    W9 m ρ c main_v16 (ix2 b n) = W8 m ρ c main_v12_1 (ix3 b ⟨n.val / 128, by omega⟩ ⟨n.val % 128, by omega⟩) := by
  unfold W9
  after_reads_at

theorem v30_at (c : Dev nD) (b : Fin 16) (j : Fin 12) (n : Fin 1024) :
    W9 m ρ c main_v30 (ix4 b j (0 : Fin 1) n) = W8 m ρ c main_v12_0 (ix3 b ⟨(j.val * 1024 + n.val) / 128, by omega⟩ ⟨(j.val * 1024 + n.val) % 128, by omega⟩) := by
  unfold W9
  after_reads_at

theorem v31_at (c : Dev nD) (b : Fin 16) (j : Fin 12) (n : Fin 1024) :
    W9 m ρ c main_v31 (ix4 b j (0 : Fin 1) n) = W8 m ρ c main_v12_2 (ix3 b ⟨(j.val * 1024 + n.val) / 128, by omega⟩ ⟨(j.val * 1024 + n.val) % 128, by omega⟩) := by
  unfold W9
  after_reads_at

theorem v32_at (c : Dev nD) (b : Fin 16) (j : Fin 12) (n : Fin 1024) :
    W9 m ρ c main_v32 (ix4 b j (0 : Fin 1) n) = W8 m ρ c main_v12_3 (ix3 b ⟨(j.val * 1024 + n.val) / 128, by omega⟩ ⟨(j.val * 1024 + n.val) % 128, by omega⟩) := by
  unfold W9
  after_reads_at

theorem v34_at (c : Dev nD) (b : Fin 16) (n : Fin 12288) :
    W11 m ρ c main_v34 (ix3 b n (0 : Fin 1)) = W8 m ρ c main_v12_1 (ix3 b ⟨n.val / 128, by omega⟩ ⟨n.val % 128, by omega⟩) := by
  refine Eq.trans (b := W10 m ρ c main_v16 (ix2 b n)) ?_ ?_
  · unfold W11
    after_reads_at
  · rw [W10_of_ne m ρ c main_v16 (by decide)]
    exact v16_at m ρ c b n

theorem v35_at (c : Dev nD) (b : Fin 16) (n : Fin 12288) :
    W11 m ρ c main_v35 (ix3 b n (0 : Fin 1)) = W8 m ρ c main_v12_0 (ix3 b ⟨n.val / 128, by omega⟩ ⟨n.val % 128, by omega⟩) := by
  refine Eq.trans (b := W10 m ρ c main_v14 (ix2 b n)) ?_ ?_
  · unfold W11
    after_reads_at
  · rw [W10_of_ne m ρ c main_v14 (by decide)]
    exact v14_at m ρ c b n

theorem w8_arg (c : Dev nD) (a : Ref sig .tc) (h : a ∈ argRefs) : W8 m ρ c a = m ((c : Thread nD τ).loc a) := W8_args m ρ c a h

theorem v24_ss (c : Dev nD) (g : Fin 6) (h : Fin 64) (q : Fin 16) :
    W9 m ρ c main_v24 (ix3 g (⟨h.val, by omega⟩ : Fin 128) (⟨q.val, by omega⟩ : Fin 32)) = m ((c : Thread nD τ).loc main_arg4) (ix3 g q h) := by
  rw [← w8_arg m ρ c main_arg4 (by decide)]
  unfold W9
  after_reads_at
  after_reads_at

theorem v24_sc (c : Dev nD) (g : Fin 6) (h : Fin 64) (q : Fin 16) :
    W9 m ρ c main_v24 (ix3 g (⟨h.val, by omega⟩ : Fin 128) (⟨16 + q.val, by omega⟩ : Fin 32)) = m ((c : Thread nD τ).loc main_arg6) (ix3 g q h) := by
  rw [← w8_arg m ρ c main_arg6 (by decide)]
  unfold W9
  after_reads_at
  after_reads_at

theorem v24_bs (c : Dev nD) (g : Fin 6) (h : Fin 64) (q : Fin 16) :
    W9 m ρ c main_v24 (ix3 g (⟨64 + h.val, by omega⟩ : Fin 128) (⟨q.val, by omega⟩ : Fin 32)) = m ((c : Thread nD τ).loc main_arg5) (ix3 g q h) := by
  rw [← w8_arg m ρ c main_arg5 (by decide)]
  unfold W9
  after_reads_at
  after_reads_at

theorem v24_bc (c : Dev nD) (g : Fin 6) (h : Fin 64) (q : Fin 16) :
    W9 m ρ c main_v24 (ix3 g (⟨64 + h.val, by omega⟩ : Fin 128) (⟨16 + q.val, by omega⟩ : Fin 32)) = m ((c : Thread nD τ).loc main_arg7) (ix3 g q h) := by
  rw [← w8_arg m ρ c main_arg7 (by decide)]
  unfold W9
  after_reads_at
  after_reads_at

/-- Where the update of the table's first six columns lands. -/
theorem lands : ∀ (h : Fin 64) (g : Fin 6), scatter_S64x8_S1_S64x6_01_n_1_0.resultIdx? (ix2 h g) (fun _ : S1.Idx => 0#32)
    = some (ix2 h (⟨g.val, by omega⟩ : Fin 8)) := by
  decide +kernel

theorem v29_at (c : Dev nD) (g : Fin 6) (h : Fin 64) :
    W9 m ρ c main_v29 (ix2 h (⟨g.val, by omega⟩ : Fin 8)) = m ((c : Thread nD τ).loc main_arg3) (ix3 g h (0 : Fin 1)) := by
  rw [← w8_arg m ρ c main_arg3 (by decide)]
  unfold W9
  after_reads_at
  have hz : broadcastInDim S1 ![] bcast_S_S1 (constantI S_ 32 0#32) = fun _ : S1.Idx => 0#32 := by
    funext i
    rfl
  rw [hz]
  refine Routing.scatter_set_hit _ _ _ _ _ _ (fun k hk => ?_) (ix2 h g) (lands h g)
  idx_vars k
  rw [lands] at hk
  have hk' := Option.some.inj hk
  have h0 : k0 = h := congrFun hk' 0
  have h1' : (⟨k1.val, by omega⟩ : Fin 8) = ⟨g.val, by omega⟩ := congrFun hk' 1
  have h1 : k1 = g := Fin.ext (Fin.mk.inj h1')
  subst h0 h1
  pointwise

end Cert.KernelIdeal.HostOps
-- ==== Proof.Ref.lean ====
/-
  The reference's arrays before its sort, at an index.
-/
module

public import proofs.«01_k».proof.Proof.Gen.ReferenceIdeal.Run
public import proofs.«01_k».proof.Proof.Host

@[expose] public section

set_option maxRecDepth 16384

noncomputable section

namespace Cert.ReferenceIdeal.At

open Idealize.ShloMosaic Idealize.ShloMosaic.TcCoe Idealize.SL.Sem Idealize.ShloMosaic.StableHlo
open Cert.ReferenceIdeal Cert.ReferenceIdeal.Gen Cert.ReferenceIdeal.Value

variable (V0 : Valuation τ sig (Elt Ideal))

/-- The eight arguments as arrays. -/
abbrev argX : Vec Ideal S16x2048x6 .f32 := V0 (Proc.devRef .tc main_arg0)
abbrev argT : Vec Ideal S16x2048x6 .f32 := V0 (Proc.devRef .tc main_arg1)
abbrev argM : Vec Ideal S16x2048x6 .f32 := V0 (Proc.devRef .tc main_arg2)
abbrev argL : Vec Ideal S6x64x1 .f32 := V0 (Proc.devRef .tc main_arg3)
abbrev argA : Vec Ideal S6x16x64 .f32 := V0 (Proc.devRef .tc main_arg4)
abbrev argB : Vec Ideal S6x16x64 .f32 := V0 (Proc.devRef .tc main_arg5)
abbrev argW : Vec Ideal S6x16x64 .f32 := V0 (Proc.devRef .tc main_arg6)
abbrev argV : Vec Ideal S6x16x64 .f32 := V0 (Proc.devRef .tc main_arg7)

/-- The frequency of harmonic `q`. -/
def harm (q : Fin 16) : EReal := (res_main_v10 V0 : Vec Ideal S16 .f32) (ix1 q)

/-- The modulated value of token `l` of band `g`, batch `b`, channel `h`. -/
def film (b : Fin 16) (l : Fin 2048) (g : Fin 6) (h : Fin 64) : EReal :=
  (∑ _x : Fin 1, argX V0 (ix3 b l g) * argL V0 (ix3 g h (0 : Fin 1)))
      * ((∑ q : Fin 16, Ideal.sin (argT V0 (ix3 b l g) * harm V0 q) * argA V0 (ix3 g q h))
        + ∑ q : Fin 16, Ideal.cos (argT V0 (ix3 b l g) * harm V0 q) * argW V0 (ix3 g q h))
    + ((∑ q : Fin 16, Ideal.sin (argT V0 (ix3 b l g) * harm V0 q) * argB V0 (ix3 g q h))
        + ∑ q : Fin 16, Ideal.cos (argT V0 (ix3 b l g) * harm V0 q) * argV V0 (ix3 g q h))

theorem v16_at (b : Fin 16) (l : Fin 2048) (q : Fin 16) :
    res_main_v18 V0 (ix3 b l q) = Ideal.sin (argT V0 (ix3 b l (0 : Fin 6)) * harm V0 q) := by
  unfold res_main_v18 res_main_v17 res_main_v12 harm
  clean_types
  pointwise

theorem v17_at (b : Fin 16) (l : Fin 2048) (q : Fin 16) :
    res_main_v19 V0 (ix3 b l q) = Ideal.cos (argT V0 (ix3 b l (0 : Fin 6)) * harm V0 q) := by
  unfold res_main_v19 res_main_v17 res_main_v12 harm
  clean_types
  pointwise

theorem v45_at (b : Fin 16) (l : Fin 2048) (q : Fin 16) :
    res_main_v47 V0 (ix3 b l q) = Ideal.sin (argT V0 (ix3 b l (1 : Fin 6)) * harm V0 q) := by
  unfold res_main_v47 res_main_v46 res_main_v41 harm
  clean_types
  pointwise

theorem v46_at (b : Fin 16) (l : Fin 2048) (q : Fin 16) :
    res_main_v48 V0 (ix3 b l q) = Ideal.cos (argT V0 (ix3 b l (1 : Fin 6)) * harm V0 q) := by
  unfold res_main_v48 res_main_v46 res_main_v41 harm
  clean_types
  pointwise

theorem v74_at (b : Fin 16) (l : Fin 2048) (q : Fin 16) :
    res_main_v76 V0 (ix3 b l q) = Ideal.sin (argT V0 (ix3 b l (2 : Fin 6)) * harm V0 q) := by
  unfold res_main_v76 res_main_v75 res_main_v70 harm
  clean_types
  pointwise

theorem v75_at (b : Fin 16) (l : Fin 2048) (q : Fin 16) :
    res_main_v77 V0 (ix3 b l q) = Ideal.cos (argT V0 (ix3 b l (2 : Fin 6)) * harm V0 q) := by
  unfold res_main_v77 res_main_v75 res_main_v70 harm
  clean_types
  pointwise

theorem v103_at (b : Fin 16) (l : Fin 2048) (q : Fin 16) :
    res_main_v105 V0 (ix3 b l q) = Ideal.sin (argT V0 (ix3 b l (3 : Fin 6)) * harm V0 q) := by
  unfold res_main_v105 res_main_v104 res_main_v99 harm
  clean_types
  pointwise

theorem v104_at (b : Fin 16) (l : Fin 2048) (q : Fin 16) :
    res_main_v106 V0 (ix3 b l q) = Ideal.cos (argT V0 (ix3 b l (3 : Fin 6)) * harm V0 q) := by
  unfold res_main_v106 res_main_v104 res_main_v99 harm
  clean_types
  pointwise

theorem v132_at (b : Fin 16) (l : Fin 2048) (q : Fin 16) :
    res_main_v134 V0 (ix3 b l q) = Ideal.sin (argT V0 (ix3 b l (4 : Fin 6)) * harm V0 q) := by
  unfold res_main_v134 res_main_v133 res_main_v128 harm
  clean_types
  pointwise

theorem v133_at (b : Fin 16) (l : Fin 2048) (q : Fin 16) :
    res_main_v135 V0 (ix3 b l q) = Ideal.cos (argT V0 (ix3 b l (4 : Fin 6)) * harm V0 q) := by
  unfold res_main_v135 res_main_v133 res_main_v128 harm
  clean_types
  pointwise

theorem v161_at (b : Fin 16) (l : Fin 2048) (q : Fin 16) :
    res_main_v163 V0 (ix3 b l q) = Ideal.sin (argT V0 (ix3 b l (5 : Fin 6)) * harm V0 q) := by
  unfold res_main_v163 res_main_v162 res_main_v157 harm
  clean_types
  pointwise

theorem v162_at (b : Fin 16) (l : Fin 2048) (q : Fin 16) :
    res_main_v164 V0 (ix3 b l q) = Ideal.cos (argT V0 (ix3 b l (5 : Fin 6)) * harm V0 q) := by
  unfold res_main_v164 res_main_v162 res_main_v157 harm
  clean_types
  pointwise

/-- Band and place of flat token `n`. -/
abbrev band (n : Fin 12288) : Fin 6 := ⟨n.val / 2048, by omega⟩
abbrev place (n : Fin 12288) : Fin 2048 := ⟨n.val % 2048, by omega⟩

theorem band_eq (n : Fin 12288) (k : ℕ) (hk : k < 6) (h1 : k * 2048 ≤ n.val) (h2 : n.val < k * 2048 + 2048) :
    band n = ⟨k, hk⟩ := Fin.ext (by change n.val / 2048 = k; omega)

theorem place_eq (n : Fin 12288) (a k : ℕ) (ha : a < 2048) (h1 : a = n.val - k * 2048) (h2 : k * 2048 ≤ n.val) : place n = ⟨a, ha⟩ :=
  Fin.ext (by change n.val % 2048 = a; omega)

theorem v186_at (b : Fin 16) (n : Fin 12288) : res_main_v186 V0 (ix3 b n (0 : Fin 1)) = argT V0 (ix3 b (place n) (band n)) := by
  unfold res_main_v186 res_main_v12 res_main_v41 res_main_v70 res_main_v99 res_main_v128 res_main_v157
  clean_types
  pointwise
  simp only [Nat.sub_sub, Nat.reduceAdd]
  by_cases h0 : n.val < 2048
  · rw [dif_pos h0, band_eq n 0 (by omega) (by omega) (by omega), place_eq n (n.val) 0 (by omega) (by omega) (by omega)]
    rfl
  rw [dif_neg h0]
  by_cases h1 : n.val - 2048 < 2048
  · rw [dif_pos h1, band_eq n 1 (by omega) (by omega) (by omega), place_eq n (n.val - 2048) 1 (by omega) (by omega) (by omega)]
    rfl
  rw [dif_neg h1]
  by_cases h2 : n.val - 4096 < 2048
  · rw [dif_pos h2, band_eq n 2 (by omega) (by omega) (by omega), place_eq n (n.val - 4096) 2 (by omega) (by omega) (by omega)]
    rfl
  rw [dif_neg h2]
  by_cases h3 : n.val - 6144 < 2048
  · rw [dif_pos h3, band_eq n 3 (by omega) (by omega) (by omega), place_eq n (n.val - 6144) 3 (by omega) (by omega) (by omega)]
    rfl
  rw [dif_neg h3]
  by_cases h4 : n.val - 8192 < 2048
  · rw [dif_pos h4, band_eq n 4 (by omega) (by omega) (by omega), place_eq n (n.val - 8192) 4 (by omega) (by omega) (by omega)]
    rfl
  rw [dif_neg h4]
  rw [band_eq n 5 (by omega) (by omega) (by omega), place_eq n (n.val - 10240) 5 (by omega) (by omega) (by omega)]
  rfl

theorem v187_at (b : Fin 16) (n : Fin 12288) : res_main_v187 V0 (ix3 b n (0 : Fin 1)) = argM V0 (ix3 b (place n) (band n)) := by
  unfold res_main_v187
  clean_types
  pointwise
  simp only [Nat.sub_sub, Nat.reduceAdd]
  by_cases h0 : n.val < 2048
  · rw [dif_pos h0, band_eq n 0 (by omega) (by omega) (by omega), place_eq n (n.val) 0 (by omega) (by omega) (by omega)]
    rfl
  rw [dif_neg h0]
  by_cases h1 : n.val - 2048 < 2048
  · rw [dif_pos h1, band_eq n 1 (by omega) (by omega) (by omega), place_eq n (n.val - 2048) 1 (by omega) (by omega) (by omega)]
    rfl
  rw [dif_neg h1]
  by_cases h2 : n.val - 4096 < 2048
  · rw [dif_pos h2, band_eq n 2 (by omega) (by omega) (by omega), place_eq n (n.val - 4096) 2 (by omega) (by omega) (by omega)]
    rfl
  rw [dif_neg h2]
  by_cases h3 : n.val - 6144 < 2048
  · rw [dif_pos h3, band_eq n 3 (by omega) (by omega) (by omega), place_eq n (n.val - 6144) 3 (by omega) (by omega) (by omega)]
    rfl
  rw [dif_neg h3]
  by_cases h4 : n.val - 8192 < 2048
  · rw [dif_pos h4, band_eq n 4 (by omega) (by omega) (by omega), place_eq n (n.val - 8192) 4 (by omega) (by omega) (by omega)]
    rfl
  rw [dif_neg h4]
  rw [band_eq n 5 (by omega) (by omega) (by omega), place_eq n (n.val - 10240) 5 (by omega) (by omega) (by omega)]
  rfl

set_option maxHeartbeats 4000000 in
theorem v185_at (b : Fin 16) (n : Fin 12288) (h : Fin 64) : res_main_v185 V0 (ix3 b n h) = film V0 b (place n) (band n) h := by
  unfold res_main_v185
  clean_types
  pointwise
  simp only [Nat.sub_sub, Nat.reduceAdd]
  simp only [v16_at, v17_at, v45_at, v46_at, v74_at, v75_at, v103_at, v104_at, v132_at, v133_at, v161_at, v162_at]
  by_cases h0 : n.val < 2048
  · rw [dif_pos h0, band_eq n 0 (by omega) (by omega) (by omega), place_eq n (n.val) 0 (by omega) (by omega) (by omega)]
    rfl
  rw [dif_neg h0]
  by_cases h1 : n.val - 2048 < 2048
  · rw [dif_pos h1, band_eq n 1 (by omega) (by omega) (by omega), place_eq n (n.val - 2048) 1 (by omega) (by omega) (by omega)]
    rfl
  rw [dif_neg h1]
  by_cases h2 : n.val - 4096 < 2048
  · rw [dif_pos h2, band_eq n 2 (by omega) (by omega) (by omega), place_eq n (n.val - 4096) 2 (by omega) (by omega) (by omega)]
    rfl
  rw [dif_neg h2]
  by_cases h3 : n.val - 6144 < 2048
  · rw [dif_pos h3, band_eq n 3 (by omega) (by omega) (by omega), place_eq n (n.val - 6144) 3 (by omega) (by omega) (by omega)]
    rfl
  rw [dif_neg h3]
  by_cases h4 : n.val - 8192 < 2048
  · rw [dif_pos h4, band_eq n 4 (by omega) (by omega) (by omega), place_eq n (n.val - 8192) 4 (by omega) (by omega) (by omega)]
    rfl
  rw [dif_neg h4]
  rw [band_eq n 5 (by omega) (by omega) (by omega), place_eq n (n.val - 10240) 5 (by omega) (by omega) (by omega)]
  rfl

end Cert.ReferenceIdeal.At
-- ==== Proof.Argsort.lean ====
/-
  The reference's stable sort by key: the positions it takes from, in increasing order of key and then place.
-/
module

public import proofs.«01_k».proof.Proof.Ref
public import Idealize.ShloMosaic.Lib.SortFacts

@[expose] public section

set_option maxRecDepth 16384

noncomputable section

namespace Cert.ReferenceIdeal.Argsort

open Idealize.ShloMosaic Idealize.ShloMosaic.TcCoe Idealize.SL.Sem Idealize.ShloMosaic.StableHlo
open Cert.ReferenceIdeal Cert.ReferenceIdeal.Gen Cert.ReferenceIdeal.Value Cert.ReferenceIdeal.At
open Cert.Bitonic Cert.KernelIdeal.Sort

/-- Inserting an element whose place comes before all the others keeps a list ordered by key and place. -/
theorem insert_ordered {n : ℕ} (k : Fin n → EReal) (R : Fin n → Fin n → Bool) (hR : ∀ a b, R a b = true ↔ k a < k b)
    (a : Fin n) (l : List (Fin n)) (ha : ∀ b ∈ l, a < b) (hl : l.Pairwise fun b c => k b < k c ∨ k b = k c ∧ b < c) :
    (insertBefore R a l).Pairwise fun b c => k b < k c ∨ k b = k c ∧ b < c := by
  induction l with
  | nil => exact List.pairwise_singleton _ _
  | cons b l ih =>
    have hl' := List.pairwise_cons.mp hl
    have hb := ha b List.mem_cons_self
    unfold insertBefore
    by_cases h : R b a = true
    · rw [if_pos h]
      refine List.pairwise_cons.mpr ⟨fun c hc => ?_, ih (fun c hc => ha c (List.mem_cons_of_mem _ hc)) hl'.2⟩
      rcases List.mem_cons.mp ((perm_insertBefore R a l).mem_iff.mp hc) with rfl | hc'
      · exact Or.inl ((hR _ _).mp h)
      · exact hl'.1 c hc'
    · rw [if_neg h]
      have hle : k a ≤ k b := not_lt.mp fun q => h ((hR _ _).mpr q)
      refine List.pairwise_cons.mpr ⟨fun c hc => ?_, hl⟩
      have hac := ha c hc
      rcases List.mem_cons.mp hc with rfl | hc'
      · exact (lt_or_eq_of_le hle).imp id fun e => ⟨e, hac⟩
      · rcases hl'.1 c hc' with q | ⟨q, -⟩
        · exact Or.inl (lt_of_le_of_lt hle q)
        · rw [← q]
          exact (lt_or_eq_of_le hle).imp id fun e => ⟨e, hac⟩

theorem sort_ordered {n : ℕ} (k : Fin n → EReal) (R : Fin n → Fin n → Bool) (hR : ∀ a b, R a b = true ↔ k a < k b)
    (l : List (Fin n)) (hl : l.Pairwise (· < ·)) :
    (stableSort R l).Pairwise fun b c => k b < k c ∨ k b = k c ∧ b < c := by
  induction l with
  | nil => exact List.Pairwise.nil
  | cons a l ih =>
    have hl' := List.pairwise_cons.mp hl
    unfold stableSort
    exact insert_ordered k R hR a _ (fun b hb => hl'.1 b ((perm_stableSort R l).mem_iff.mp hb)) (ih hl'.2)

/-- The place a stable sort takes its `i`-th entry from grows, in key and then place, with `i`. -/
theorem from_ordered {n : ℕ} (k : Fin n → EReal) (R : Fin n → Fin n → Bool) (hR : ∀ a b, R a b = true ↔ k a < k b)
    (i j : Fin n) (h : i < j) :
    k (sortedFrom R i) < k (sortedFrom R j) ∨ k (sortedFrom R i) = k (sortedFrom R j) ∧ sortedFrom R i < sortedFrom R j := by
  have hp : ∀ a b : Fin (sortPositions n R).length, a < b → _ :=
    List.pairwise_iff_get.mp (sort_ordered k R hR (List.finRange n) (List.pairwise_lt_finRange n))
  unfold sortedFrom
  exact hp _ _ (by simp only [Fin.lt_def, Fin.val_cast]; exact h)

/-- The reference's comparator on keys of the extended reals. -/
theorem before_iff (p q : EReal × BitVec 32) :
    ((comparator_f32_i32_d1 (F := Ideal) p q == 1#1) = true) ↔ p.1 < q.1 := by
  unfold comparator_f32_i32_d1
  dsimp only
  pointwise
  simp only [ne_eq, not_true_eq_false, if_false]
  have e : ∀ x : EReal, (if x = 0 then 0 else x) = x := fun x => by
    by_cases h : x = 0
    · rw [if_pos h, h]
    · rw [if_neg h]
  rw [e, e]
  change (BitVec.ofBool (decide (p.1 < q.1)) == 1#1) = true ↔ p.1 < q.1
  by_cases h : p.1 < q.1
  · simp [h]
  · simp [h]

variable (V0 : Valuation τ sig (Elt Ideal))

/-- The key of flat token `n`. -/
def key (b : Fin 16) (n : Fin 12288) : EReal := (res_main_v193 V0 : Vec Ideal S16x12288x1 .f32) (ix3 b n (0 : Fin 1))

theorem key_at (b : Fin 16) (n : Fin 12288) : key V0 b n =
    argT V0 (ix3 b (place n) (band n)) * argM V0 (ix3 b (place n) (band n)) + (1 - argM V0 (ix3 b (place n) (band n))) * Ideal.ofBits .f32 0x4B18967F#32 := by
  unfold key res_main_v193
  clean_types
  pointwise
  rw [v186_at, v187_at]

/-- The place the sorted order takes its `n`-th token of batch `b` from. -/
def pos (b : Fin 16) (n : Fin 12288) : Fin 12288 :=
  sortedFrom (fun k k' => comparator_f32_i32_d1 (F := Ideal) (key V0 b k, BitVec.ofNat 32 k.val) (key V0 b k', BitVec.ofNat 32 k'.val) == 1#1) n

theorem v194_at (b : Fin 16) (n : Fin 12288) : res_main_v194 V0 (ix3 b n (0 : Fin 1)) = BitVec.ofNat 32 (pos V0 b n).val := by
  have hal : ∀ k : Fin 12288, Shape.Idx.along (s := S16x12288x1) (ix3 b n (0 : Fin 1)) (1 : Fin 3) k = ix3 b k (0 : Fin 1) := by
    intro k
    funext a
    fin_cases a <;> rfl
  unfold res_main_v194 Host.sort2
  rw [dif_pos (by decide : (1 : ℕ) < S16x12288x1.rank)]
  refine (congrArg (res_main_call0_v0 V0) (hal _)).trans ?_
  have hi : ∀ k : Fin 12288, res_main_call0_v0 V0 (ix3 b k (0 : Fin 1)) = BitVec.ofNat 32 k.val := fun k => by
    unfold res_main_call0_v0
    clean_types
    pointwise
  refine (hi _).trans ?_
  have hR : (fun k k' : Fin 12288 => comparator_f32_i32_d1 (F := Ideal)
        (res_main_v193 V0 (Shape.Idx.along (s := S16x12288x1) (ix3 b n (0 : Fin 1)) (1 : Fin 3) k),
          res_main_call0_v0 V0 (Shape.Idx.along (s := S16x12288x1) (ix3 b n (0 : Fin 1)) (1 : Fin 3) k))
        (res_main_v193 V0 (Shape.Idx.along (s := S16x12288x1) (ix3 b n (0 : Fin 1)) (1 : Fin 3) k'),
          res_main_call0_v0 V0 (Shape.Idx.along (s := S16x12288x1) (ix3 b n (0 : Fin 1)) (1 : Fin 3) k')) == 1#1)
      = fun k k' => comparator_f32_i32_d1 (F := Ideal) (key V0 b k, BitVec.ofNat 32 k.val) (key V0 b k', BitVec.ofNat 32 k'.val) == 1#1 := by
    funext k k'
    rw [hal k, hal k', hi k, hi k']
    rfl
  exact congrArg (fun R => BitVec.ofNat 32 (sortedFrom (n := 12288) R n).val) hR

/-- The place taken from, past the end the place itself. -/
def ext (b : Fin 16) (n : ℕ) : ℕ := if h : n < 12288 then (pos V0 b ⟨n, h⟩).val else n

theorem ext_perm (b : Fin 16) : Perm 14 (ext V0 b) := by
  refine ⟨fun j hj => ?_, fun i hi j hj h => ?_⟩
  · unfold ext
    split
    · exact lt_trans (pos V0 b _).isLt (by decide)
    · exact hj
  · unfold ext at h
    split at h <;> split at h
    · exact Fin.mk.inj (sortedFrom_injective _ (Fin.ext h))
    · have := (pos V0 b ⟨i, by assumption⟩).isLt
      omega
    · have := (pos V0 b ⟨j, by assumption⟩).isLt
      omega
    · exact h

/-- Along the extended order the keys grow, if `k` is the reference's keys and past the end larger than they are. -/
theorem ext_sorted (b : Fin 16) (k : ℕ → EReal) (K : EReal) (hk : ∀ n : Fin 12288, k n.val = key V0 b n)
    (hK : ∀ n : Fin 12288, key V0 b n < K) (hp : ∀ n, 12288 ≤ n → k n = K) :
    ∀ i j, i < j → j < 2 ^ 14 → rank k (ext V0 b i) < rank k (ext V0 b j) := by
  intro i j hij hj
  rw [rank_lt]
  unfold ext
  by_cases h : j < 12288
  · have hi : i < 12288 := lt_trans hij h
    rw [dif_pos h, dif_pos hi, hk, hk]
    exact from_ordered (key V0 b) _ (fun a c => before_iff _ _) ⟨i, hi⟩ ⟨j, h⟩ hij
  · rw [dif_neg h, hp j (by omega)]
    by_cases hi : i < 12288
    · rw [dif_pos hi, hk]
      exact Or.inl (hK _)
    · rw [dif_neg hi, hp i (by omega)]
      exact Or.inr ⟨rfl, hij⟩

/-- An order that grows in the same keys is the reference's. -/
theorem ext_unique (b : Fin 16) (k : ℕ → EReal) (K : EReal) (hk : ∀ n : Fin 12288, k n.val = key V0 b n)
    (hK : ∀ n : Fin 12288, key V0 b n < K) (hp : ∀ n, 12288 ≤ n → k n = K) (σ : ℕ → ℕ) (hσ : Perm 14 σ)
    (sσ : ∀ i j, i < j → j < 2 ^ 14 → rank k (σ i) < rank k (σ j)) (n : Fin 12288) : σ n.val = (pos V0 b n).val := by
  have h := sorted_unique (rank_inj k) hσ (ext_perm V0 b) sσ (ext_sorted V0 b k K hk hK hp) n.val (lt_trans n.isLt (by decide))
  rw [h]
  unfold ext
  rw [dif_pos n.isLt]

end Cert.ReferenceIdeal.Argsort
-- ==== Proof.Gathers.lean ====
/-
  The reference's three results at an index: the arrays before the sort, read at the place the sorted order takes from.
-/
module

public import proofs.«01_k».proof.Proof.Argsort
public import Idealize.ShloMosaic.Lib.Tactic.WordOmega

@[expose] public section

set_option maxRecDepth 16384

noncomputable section

namespace Cert.ReferenceIdeal.Gathers

open Idealize.ShloMosaic Idealize.ShloMosaic.TcCoe Idealize.SL.Sem Idealize.ShloMosaic.StableHlo
open Cert.ReferenceIdeal Cert.ReferenceIdeal.Gen Cert.ReferenceIdeal.Value Cert.ReferenceIdeal.At Cert.ReferenceIdeal.Argsort

variable (V0 : Valuation τ sig (Elt Ideal))

/-- A place read as an index word is not moved by the wrap for negative indices. -/
theorem wrap (p : Fin 12288) : Scalar.select (IntOp.cmpi CmpIPredicate.slt (BitVec.ofNat 32 p.val) 0#32)
    (IntOp.addi (BitVec.ofNat 32 p.val) 12288#32) (BitVec.ofNat 32 p.val) = BitVec.ofNat 32 p.val := by
  have hp := p.isLt
  word_omega

theorem call2_at (b : Fin 16) (n : Fin 12288) : res_main_call2_v4 V0 (ix3 b n (0 : Fin 1)) = BitVec.ofNat 32 (pos V0 b n).val := by
  unfold res_main_call2_v4
  clean_types
  pointwise
  rw [v194_at, wrap]

theorem call3_at (b : Fin 16) (n : Fin 12288) : res_main_call3_v4 V0 (ix3 b n (0 : Fin 1)) = BitVec.ofNat 32 (pos V0 b n).val := by
  unfold res_main_call3_v4
  clean_types
  pointwise
  rw [v194_at, wrap]

theorem call1_at (b : Fin 16) (n : Fin 12288) (h : Fin 64) : res_main_call1_v5 V0 (ix4 b n h (0 : Fin 1)) = BitVec.ofNat 32 (pos V0 b n).val := by
  unfold res_main_call1_v5 res_main_v195
  clean_types
  pointwise
  rw [v194_at, wrap]

/-- A place below 12288 as a word, read signed, is the place. -/
theorem toInt_place (p : Fin 12288) : (BitVec.ofNat 32 p.val).toInt.toNat = p.val := by
  have hp := p.isLt
  have h : (BitVec.ofNat 32 p.val).toNat = p.val := by rw [BitVec.toNat_ofNat]; omega
  rw [BitVec.toInt_eq_toNat_of_lt (by rw [h]; omega), h, Int.toNat_natCast]

/-- The gather of one column at an index word that is a place. -/
theorem take_one {α : Type} (x : S16x12288x1.Idx → α) (idx : IVec S16x12288x1 32) (b : Fin 16) (n p : Fin 12288)
    (h : idx (ix3 b n (0 : Fin 1)) = BitVec.ofNat 32 p.val) :
    Host.gather gather_S16x12288x1_S16x12288x1_S16x12288x1_2_1_0_0_1_2_111 x idx (ix3 b n (0 : Fin 1)) = x (ix3 b p (0 : Fin 1)) := by
  have hp := p.isLt
  refine congrArg x (funext fun a => Fin.ext ?_)
  change GatherDims.start _ _ idx a + GatherDims.batchCoord _ _ a + GatherDims.offCoord _ _ a = _
  match a with
  | ⟨0, _⟩ =>
    rw [GatherDims.start_batching _ _ _ _ (by decide +revert), GatherDims.offCoord_eq_zero _ _ _ (by decide +revert), GatherDims.batchCoord, dif_pos (by decide +revert)]
    simp only [Nat.zero_add, Nat.add_zero]
    rfl
  | ⟨1, _⟩ =>
    rw [GatherDims.batchCoord_eq_zero _ _ _ (by decide +revert), GatherDims.offCoord_eq_zero _ _ _ (by decide +revert), GatherDims.start, dif_pos (by decide +revert)]
    simp only [Nat.add_zero]
    have hs : ∀ k, GatherDims.siIdx gather_S16x12288x1_S16x12288x1_S16x12288x1_2_1_0_0_1_2_111 (ix3 b n (0 : Fin 1)) k = ix3 b n (0 : Fin 1) := by
      intro k
      funext e
      refine Fin.ext ?_
      match e with
      | ⟨0, _⟩ => rfl
      | ⟨1, _⟩ => rfl
      | ⟨2, _⟩ => exact Nat.lt_one_iff.1 k.isLt
    rw [hs, h, toInt_place]
    exact Nat.min_eq_left (by change p.val ≤ 12288 - 1; omega)
  | ⟨2, _⟩ =>
    rw [GatherDims.batchCoord_eq_zero _ _ _ (by decide +revert), GatherDims.start, dif_neg (by decide +revert), GatherDims.offCoord, dif_pos (by decide +revert)]
    simp only [Nat.zero_add]
    rfl

/-- The gather of 64 columns, each column by its own index word, at an index word that is a place. -/
theorem take_col {α : Type} (x : S16x12288x64.Idx → α) (idx : IVec S16x12288x64x1 32) (b : Fin 16) (n p : Fin 12288) (c : Fin 64)
    (h : idx (ix4 b n c (0 : Fin 1)) = BitVec.ofNat 32 p.val) :
    Host.gather gather_S16x12288x64_S16x12288x64x1_S16x12288x64_n_1_02_02_1_3_111 x idx (ix3 b n c) = x (ix3 b p c) := by
  have hp := p.isLt
  refine congrArg x (funext fun a => Fin.ext ?_)
  change GatherDims.start _ _ idx a + GatherDims.batchCoord _ _ a + GatherDims.offCoord _ _ a = _
  match a with
  | ⟨0, _⟩ =>
    rw [GatherDims.start_batching _ _ _ _ (by decide +revert), GatherDims.offCoord_eq_zero _ _ _ (by decide +revert), GatherDims.batchCoord, dif_pos (by decide +revert)]
    simp only [Nat.zero_add, Nat.add_zero]
    rfl
  | ⟨1, _⟩ =>
    rw [GatherDims.batchCoord_eq_zero _ _ _ (by decide +revert), GatherDims.offCoord_eq_zero _ _ _ (by decide +revert), GatherDims.start, dif_pos (by decide +revert)]
    simp only [Nat.add_zero]
    have hs : ∀ k, GatherDims.siIdx gather_S16x12288x64_S16x12288x64x1_S16x12288x64_n_1_02_02_1_3_111 (ix3 b n c) k = ix4 b n c (0 : Fin 1) := by
      intro k
      funext e
      refine Fin.ext ?_
      match e with
      | ⟨0, _⟩ => rfl
      | ⟨1, _⟩ => rfl
      | ⟨2, _⟩ => rfl
      | ⟨3, _⟩ => exact Nat.lt_one_iff.1 k.isLt
    rw [hs, h, toInt_place]
    exact Nat.min_eq_left (by change p.val ≤ 12288 - 1; omega)
  | ⟨2, _⟩ =>
    rw [GatherDims.start_batching _ _ _ _ (by decide +revert), GatherDims.offCoord_eq_zero _ _ _ (by decide +revert), GatherDims.batchCoord, dif_pos (by decide +revert)]
    simp only [Nat.zero_add, Nat.add_zero]
    rfl

/-- A conjunction over one term is the term. -/
theorem all_one (f : Fin 1 → BitVec 1) (h : f 0 = 1#1) : Finset.fold IntOp.andi 1#1 f Finset.univ = 1#1 := by
  rw [Finset.univ_unique, Finset.fold_singleton]
  change IntOp.andi (f 0) 1#1 = 1#1
  rw [h]
  decide

/-- A place read as an index word passes the range test. -/
theorem in_range (p : Fin 12288) : IntOp.andi (IntOp.cmpi CmpIPredicate.sge (BitVec.ofNat 32 p.val) 0#32)
    (IntOp.cmpi CmpIPredicate.sle (BitVec.ofNat 32 p.val) 12287#32) = 1#1 := by
  have hp := p.isLt
  have h : (BitVec.ofNat 32 p.val).toNat = p.val := by rw [BitVec.toNat_ofNat]; omega
  have hi : (BitVec.ofNat 32 p.val).toInt = (p.val : ℤ) := by rw [BitVec.toInt_eq_toNat_of_lt (by rw [h]; omega), h]
  have h1 : IntOp.cmpi CmpIPredicate.sge (BitVec.ofNat 32 p.val) 0#32 = 1#1 := by
    word_omega
  have h2 : IntOp.cmpi CmpIPredicate.sle (BitVec.ofNat 32 p.val) 12287#32 = 1#1 := by
    word_omega
  rw [h1, h2]
  decide

theorem m_at (b : Fin 16) (n : Fin 12288) : val4 V0 (Proc.devRef .tc main_v197) (ix3 b n (0 : Fin 1))
    = argM V0 (ix3 b (place (pos V0 b n)) (band (pos V0 b n))) := by
  refine (congrFun (val4_main_v197 V0) _).trans ?_
  clean_types
  pointwise
  rw [all_one _ (by rw [call2_at]; exact in_range _), take_one _ _ b n (pos V0 b n) (call2_at V0 b n), v187_at]
  rfl

theorem t_at (b : Fin 16) (n : Fin 12288) : val4 V0 (Proc.devRef .tc main_v198) (ix3 b n (0 : Fin 1))
    = argT V0 (ix3 b (place (pos V0 b n)) (band (pos V0 b n))) := by
  refine (congrFun (val4_main_v198 V0) _).trans ?_
  clean_types
  pointwise
  rw [all_one _ (by rw [call3_at]; exact in_range _), take_one _ _ b n (pos V0 b n) (call3_at V0 b n), v186_at]
  rfl

theorem x_at (b : Fin 16) (n : Fin 12288) (h : Fin 64) : val4 V0 (Proc.devRef .tc main_v196) (ix3 b n h)
    = film V0 b (place (pos V0 b n)) (band (pos V0 b n)) h := by
  refine (congrFun (val4_main_v196 V0) _).trans ?_
  clean_types
  pointwise
  rw [all_one _ (by rw [call1_at]; exact in_range _), take_col _ _ b n (pos V0 b n) h (call1_at V0 b n h), v185_at]
  rfl

end Cert.ReferenceIdeal.Gathers
-- ==== Proof.Valid.lean ====
/-
  What the precondition says of the times and the mask, and the numbers that the two programs compare them with.
-/
module

public import proofs.«01_k».proof.Proof.Gathers
public import proofs.«01_k».proof.Proof.Gen.Pre_valid_times
public import Idealize.ShloMosaic.Lib.ReduceAll

@[expose] public section

set_option maxRecDepth 16384

noncomputable section

namespace Cert.Valid

open Idealize.ShloMosaic Idealize.ShloMosaic.TcCoe Idealize.SL.Sem
open Cert.KernelIdeal Cert.KernelIdeal.Film Cert.ReferenceIdeal.At

/-- The literal 9999999. -/
theorem late : Ideal.ofBits .f32 0x4B18967F#32 = ((9999999 : ℝ) : EReal) := by
  simp [Ideal.ofBits, Ideal.ieee, -EReal.coe_mul]

/-- The literal 10 000 000 000. -/
theorem past : Ideal.ofBits .f32 0x501502F9#32 = ((10000000000 : ℝ) : EReal) := by
  simp [Ideal.ofBits, Ideal.ieee, -EReal.coe_mul]; norm_num

/-- The literal 5 000 000. -/
theorem middle : Ideal.ofBits .f32 0x4A989680#32 = ((5000000 : ℝ) : EReal) := by
  simp [Ideal.ofBits, Ideal.ieee, -EReal.coe_mul]; norm_num

/-- The literal 1500. -/
theorem tmax : Ideal.ofBits .f32 0x44BB8000#32 = ((1500 : ℝ) : EReal) := by
  simp [Ideal.ofBits, Ideal.ieee, -EReal.coe_mul]; norm_num

/-- The literal 2. -/
theorem two : Ideal.ofBits .f32 0x40000000#32 = ((2 : ℝ) : EReal) := by
  simp [Ideal.ofBits, Ideal.ieee, -EReal.coe_mul]; norm_num

/-- The literal 4. -/
theorem four : Ideal.ofBits .f32 0x40800000#32 = ((4 : ℝ) : EReal) := by
  simp [Ideal.ofBits, Ideal.ieee, -EReal.coe_mul]; norm_num

/-- The mask is 0 or 1, and where it is 1 the time is below 5 000 000. -/
structure Valid (T M : Vec Ideal S16x2048x6 .f32) : Prop where
  time : ∀ i, M i = 1 → T i < ((5000000 : ℝ) : EReal)
  mask : ∀ i, M i = 0 ∨ M i = 1

instance : Subsingleton (Cert.Pre_valid_times.S_.Idx) := ⟨fun a b => funext fun k => k.elim0⟩

theorem ofBool_one (p : Prop) [Decidable p] : BitVec.ofBool (decide p) = 1#1 ↔ p := by
  by_cases h : p <;> simp [h]

/-- The precondition at an index. -/
theorem of_pre (a0 a1 a2 : Vec Ideal S16x2048x6 .f32) (a3 : Vec Ideal S6x64x1 .f32) (a4 a5 a6 a7 : Vec Ideal S6x16x64 .f32)
    (h : Cert.Pre_valid_times.fn (F := Ideal) a0 a1 a2 a3 a4 a5 a6 a7 = fun _ => 1#1) : Valid a1 a2 := by
  have h0 := congrFun h (Shape.Idx.first Cert.Pre_valid_times.Facts.h_S_)
  unfold Cert.Pre_valid_times.fn at h0
  dsimp only at h0
  have key : ∀ i, a2 i = 0 ∨ (a2 i = 1 ∧ a1 i < ((5000000 : ℝ) : EReal)) := fun i => by
    have hz : BitVec.ofBool (decide (a2 i = Ideal.ofBits .f32 0x00000000#32)) = 1#1
        ∨ IntOp.andi (BitVec.ofBool (decide (a2 i = Ideal.ofBits .f32 0x3F800000#32)))
            (BitVec.ofBool (decide (a1 i < Ideal.ofBits .f32 0x4A989680#32))) = 1#1 :=
      IntOp.ori_eq_one.1 (Host.reduce_andi_all _ _ _ _ _ h0 i)
    rw [IntOp.andi_eq_one, Ideal.ofBits_zero_f32, Ideal.ofBits_one_f32, middle, ofBool_one, ofBool_one, ofBool_one] at hz
    exact hz
  refine ⟨fun i h1 => ?_, fun i => (key i).imp_right And.left⟩
  rcases key i with h2 | h2
  · rw [h1] at h2
    exact absurd h2 one_ne_zero
  · exact h2.2

/-- The reference's key of one token is the kernel's. -/
theorem key_eq (T M C : EReal) (h : M = 0 ∨ M = 1) : (if 0 < M then T else C) = T * M + (1 - M) * C := by
  rcases h with rfl | rfl
  · simp
  · have : (1 : EReal) - 1 = 0 := by
      rw [show (1 : EReal) = ((1 : ℝ) : EReal) from rfl, ← EReal.coe_sub]; simp
    simp [this]

/-- A key of a token is below the key of the padding. -/
theorem key_lt (T M : EReal) (ht : M = 1 → T < ((5000000 : ℝ) : EReal)) (h : M = 0 ∨ M = 1) :
    (if 0 < M then T else Ideal.ofBits .f32 0x4B18967F#32) < Ideal.ofBits .f32 0x501502F9#32 := by
  rw [late, past]
  rcases h with rfl | rfl
  · rw [if_neg (lt_irrefl _)]
    exact EReal.coe_lt_coe_iff.2 (by norm_num)
  · rw [if_pos zero_lt_one]
    exact lt_trans (ht rfl) (EReal.coe_lt_coe_iff.2 (by norm_num))

/-- The mask read back from a key. -/
theorem mask_eq (T M : EReal) (ht : M = 1 → T < ((5000000 : ℝ) : EReal)) (h : M = 0 ∨ M = 1) :
    (if (if 0 < M then T else Ideal.ofBits .f32 0x4B18967F#32) < Ideal.ofBits .f32 0x4A989680#32 then 1 else 0) = M := by
  rw [late, middle]
  rcases h with rfl | rfl
  · rw [if_neg (lt_irrefl _), if_neg (not_lt.2 (EReal.coe_le_coe_iff.2 (by norm_num)))]
  · rw [if_pos zero_lt_one, if_pos (ht rfl)]

/-- The kernel's base frequency is `2 π / 1500`. -/
theorem freq_eq : freq = (((2 * Real.pi) * 1500⁻¹ : ℝ) : EReal) := by
  unfold freq
  exact IdealRules.named_const.ideal_named_scalar _ _ _ _ rfl

/-- The reference's harmonic `q` has `q + 1` times the kernel's base frequency. -/
theorem harm_eq (V0 : Valuation Cert.ReferenceIdeal.τ Cert.ReferenceIdeal.sig (Elt Ideal)) (q : Fin 16) :
    harm V0 q = (((q.val + 1 : ℕ) : ℝ) : EReal) * freq := by
  rw [freq_eq]
  unfold harm Cert.ReferenceIdeal.Value.res_main_v10
  clean_types
  pointwise
  rw [sitofp_small q.val (by omega), two, four, tmax, show (1 : EReal) = ((1 : ℝ) : EReal) from rfl, Ideal.atan_coe, Real.arctan_one]
  simp only [← EReal.coe_add, ← EReal.coe_mul]
  rw [Ideal.div_coe (by norm_num), ← EReal.coe_mul]
  congr 1
  push_cast
  ring

/-- Features `0` to `15` are the sines, `16` to `31` the cosines, of the reference's harmonics. -/
theorem feat_sin (V0 : Valuation Cert.ReferenceIdeal.τ Cert.ReferenceIdeal.sig (Elt Ideal)) (T : EReal) (q : Fin 16) :
    feat T q.val = Ideal.sin (T * harm V0 q) := by
  unfold feat
  rw [if_pos q.isLt, Nat.mod_eq_of_lt q.isLt, harm_eq]

theorem feat_cos (V0 : Valuation Cert.ReferenceIdeal.τ Cert.ReferenceIdeal.sig (Elt Ideal)) (T : EReal) (q : Fin 16) :
    feat T (16 + q.val) = Ideal.cos (T * harm V0 q) := by
  unfold feat
  rw [if_neg (by omega), Nat.add_mod_left, Nat.mod_eq_of_lt q.isLt, harm_eq]

end Cert.Valid
-- ==== Proof.Order.lean ====
/-
  The arrays after the sort call, read at the place the reference's sorted order takes from.
-/
module

public import proofs.«01_k».proof.Proof.Valid

@[expose] public section

set_option maxRecDepth 16384

noncomputable section

namespace Cert.Order

open Idealize.ShloMosaic Idealize.ShloMosaic.TcCoe Idealize.SL.Sem
open Cert.KernelIdeal Cert.KernelIdeal.Gen Cert.KernelIdeal.Sort Cert.KernelIdeal.Arrays Cert.KernelIdeal.HostOps
open Cert.ReferenceIdeal.At Cert.ReferenceIdeal.Argsort Cert.Valid

variable (m : (ℓ : Loc nD τ sig) → Buf (Elt Ideal) ℓ) (ρ : Dev nD → PrngReg) (c : Dev nD)
variable (V0 : Valuation Cert.ReferenceIdeal.τ Cert.ReferenceIdeal.sig (Elt Ideal))

theorem blk_flat (A : Vec Ideal S16x128x128 .f32) (B : Vec Ideal S16x2048x6 .f32) (b : Fin 16)
    (h : ∀ r k : Fin 128, A (ix3 b r k) = flat B b (r.val * 128 + k.val)) (n : ℕ) (hn : n < 2 ^ 14) :
    blk (row A b) n = flat B b n := by
  have e := blk_mk (row A b) ⟨n / 128, by omega⟩ ⟨n % 128, by omega⟩
  have e2 : n / 128 * 128 + n % 128 = n := by omega
  simp only [e2] at e
  rw [e]
  refine (h ⟨n / 128, by omega⟩ ⟨n % 128, by omega⟩).trans ?_
  simp only [e2]

theorem flat_at (B : Vec Ideal S16x2048x6 .f32) (b : Fin 16) (n : Fin 12288) : flat B b n.val = B (ix3 b (place n) (band n)) := by
  unfold flat
  rw [dif_pos n.isLt]

theorem place_eq (n : Fin 12288) : n.val / 128 * 128 + n.val % 128 = n.val := by omega

/-- The kernel's values, times and mask as arrays. -/
abbrev inX : Vec Ideal S16x2048x6 .f32 := m ((c : Thread nD τ).loc main_arg0)
abbrev inT : Vec Ideal S16x2048x6 .f32 := m ((c : Thread nD τ).loc main_arg1)
abbrev inM : Vec Ideal S16x2048x6 .f32 := m ((c : Thread nD τ).loc main_arg2)

/-- The keys the sort starts from in batch `b`. -/
abbrev keys (b : Fin 16) : ℕ → EReal :=
  keyOf (blk (row (W7 m ρ c main_v7) b)) (blk (row (W7 m ρ c main_v11) b))

theorem keys_at (b : Fin 16) (n : Fin 12288) : keys m ρ c b n.val
    = if 0 < inM m c (ix3 b (place n) (band n))
      then inT m c (ix3 b (place n) (band n)) else Ideal.ofBits .f32 0x4B18967F#32 := by
  unfold keys keyOf
  rw [if_pos n.isLt, blk_flat _ _ b (v7_at m ρ c b) _ (lt_trans n.isLt (by decide)), blk_flat _ _ b (v11_at m ρ c b) _ (lt_trans n.isLt (by decide)),
    flat_at, flat_at]

variable (hT : argT V0 = inT m c) (hM : argM V0 = inM m c)
variable (hv : Valid (argT V0) (argM V0))
include hT hM hv

/-- The kernel's sort takes from where the reference's takes from. -/
theorem src_pos (b : Fin 16) (n : Fin 12288) :
    src (row (W7 m ρ c main_v7) b) (row (W7 m ρ c main_v11) b) n.val = (pos V0 b n).val := by
  have hk : ∀ n : Fin 12288, keys m ρ c b n.val = key V0 b n := fun n => by
    rw [keys_at, ← hT, ← hM, key_eq _ _ _ (hv.mask _), key_at]
  obtain ⟨hp, hs⟩ := src_sorted (row (W7 m ρ c main_v7) b) (row (W7 m ρ c main_v11) b)
  refine ext_unique V0 b (keys m ρ c b) (Ideal.ofBits .f32 0x501502F9#32) hk (fun k => ?_) (fun k h => ?_) _ hp hs n
  · rw [← hk, keys_at, ← hT, ← hM]
    exact key_lt _ _ (hv.time _) (hv.mask _)
  · exact if_neg (by omega)

theorem holds (b : Fin 16) : Holds (keys m ρ c b) (blk (row (W7 m ρ c main_v9) b)) (blk (row (W7 m ρ c main_v7) b))
    (planes (V7 m ρ) c b) (src (row (W7 m ρ c main_v7) b) (row (W7 m ρ c main_v11) b)) :=
  last_holds _ _ _

theorem ts_at (b : Fin 16) (n : Fin 12288) : W8 m ρ c main_v12_0 (ix3 b ⟨n.val / 128, by omega⟩ ⟨n.val % 128, by omega⟩)
    = argT V0 (ix3 b (place (pos V0 b n)) (band (pos V0 b n))) := by
  refine (congrFun ((W8_arr m ρ c 3).trans (arr0_3 (V7 m ρ) c)) _).trans ?_
  have h := (holds m ρ c V0 hT hM hv b).ts ⟨n.val / 128, by omega⟩ ⟨n.val % 128, by omega⟩
  simp only [place_eq] at h
  refine h.trans ?_
  rw [src_pos m ρ c V0 hT hM hv, blk_flat _ _ b (v7_at m ρ c b) _ (lt_trans (pos V0 b n).isLt (by decide)), flat_at, hT]

theorem xs_at (hX : argX V0 = inX m c) (b : Fin 16) (n : Fin 12288) :
    W8 m ρ c main_v12_2 (ix3 b ⟨n.val / 128, by omega⟩ ⟨n.val % 128, by omega⟩)
    = argX V0 (ix3 b (place (pos V0 b n)) (band (pos V0 b n))) := by
  refine (congrFun ((W8_arr m ρ c 5).trans (arr0_5 (V7 m ρ) c)) _).trans ?_
  have h := (holds m ρ c V0 hT hM hv b).xs ⟨n.val / 128, by omega⟩ ⟨n.val % 128, by omega⟩
  simp only [place_eq] at h
  refine h.trans ?_
  rw [src_pos m ρ c V0 hT hM hv, blk_flat _ _ b (v9_at m ρ c b) _ (lt_trans (pos V0 b n).isLt (by decide)), flat_at, hX]

theorem idx_at (b : Fin 16) (n : Fin 12288) :
    W8 m ρ c main_v12_3 (ix3 b ⟨n.val / 128, by omega⟩ ⟨n.val % 128, by omega⟩) = BitVec.ofNat 32 (pos V0 b n).val := by
  refine (congrFun ((W8_arr m ρ c 6).trans (arr0_6 (V7 m ρ) c)) _).trans ?_
  have h := (holds m ρ c V0 hT hM hv b).idx ⟨n.val / 128, by omega⟩ ⟨n.val % 128, by omega⟩
  simp only [place_eq] at h
  refine h.trans ?_
  rw [src_pos m ρ c V0 hT hM hv]

theorem ms_at (b : Fin 16) (n : Fin 12288) : W8 m ρ c main_v12_1 (ix3 b ⟨n.val / 128, by omega⟩ ⟨n.val % 128, by omega⟩)
    = argM V0 (ix3 b (place (pos V0 b n)) (band (pos V0 b n))) := by
  refine (congrFun ((W8_arr m ρ c 4).trans (arr0_4 (V7 m ρ) c)) _).trans ?_
  have hk := (holds m ρ c V0 hT hM hv b).key ⟨n.val / 128, by omega⟩ ⟨n.val % 128, by omega⟩
  simp only [place_eq] at hk
  rw [src_pos m ρ c V0 hT hM hv, keys_at, ← hT, ← hM] at hk
  refine Eq.trans ?_ (mask_eq _ _ (hv.time (ix3 b (place (pos V0 b n)) (band (pos V0 b n)))) (hv.mask (ix3 b (place (pos V0 b n)) (band (pos V0 b n)))))
  rw [← hk]
  unfold maskOf
  pointwise

end Cert.Order
-- ==== Proof.Equal.lean ====
/-
  The kernel's three results are the reference's.
-/
module

public import proofs.«01_k».proof.Proof.Order

@[expose] public section

set_option maxRecDepth 16384

noncomputable section

namespace Cert.Equal

open Idealize.ShloMosaic Idealize.ShloMosaic.TcCoe Idealize.SL.Sem
open Cert.KernelIdeal Cert.KernelIdeal.Gen Cert.KernelIdeal.Arrays Cert.KernelIdeal.HostOps Cert.KernelIdeal.Film
open Cert.ReferenceIdeal.At Cert.ReferenceIdeal.Argsort Cert.Valid Cert.Order

variable (m : (ℓ : Loc nD τ sig) → Buf (Elt Ideal) ℓ) (ρ : Dev nD → PrngReg) (c : Dev nD)
variable (V0 : Valuation Cert.ReferenceIdeal.τ Cert.ReferenceIdeal.sig (Elt Ideal))

theorem tok_eq (n : Fin 12288) : n.val / 1024 * 1024 + n.val % 1024 = n.val := by omega

theorem chunk_t (b : Fin 16) (n : Fin 12288) :
    chunk (W9 m ρ c main_v30) b ⟨n.val / 1024, by omega⟩ (ix4 (0 : Fin 1) (0 : Fin 1) (0 : Fin 1) ⟨n.val % 1024, by omega⟩)
      = W8 m ρ c main_v12_0 (ix3 b ⟨n.val / 128, by omega⟩ ⟨n.val % 128, by omega⟩) := by
  have h := v30_at m ρ c b ⟨n.val / 1024, by omega⟩ ⟨n.val % 1024, by omega⟩
  simp only [tok_eq] at h
  exact h

theorem chunk_x (b : Fin 16) (n : Fin 12288) :
    chunk (W9 m ρ c main_v31) b ⟨n.val / 1024, by omega⟩ (ix4 (0 : Fin 1) (0 : Fin 1) (0 : Fin 1) ⟨n.val % 1024, by omega⟩)
      = W8 m ρ c main_v12_2 (ix3 b ⟨n.val / 128, by omega⟩ ⟨n.val % 128, by omega⟩) := by
  have h := v31_at m ρ c b ⟨n.val / 1024, by omega⟩ ⟨n.val % 1024, by omega⟩
  simp only [tok_eq] at h
  exact h

theorem chunk_i (b : Fin 16) (n : Fin 12288) :
    chunk (W9 m ρ c main_v32) b ⟨n.val / 1024, by omega⟩ (ix4 (0 : Fin 1) (0 : Fin 1) (0 : Fin 1) ⟨n.val % 1024, by omega⟩)
      = W8 m ρ c main_v12_3 (ix3 b ⟨n.val / 128, by omega⟩ ⟨n.val % 128, by omega⟩) := by
  have h := v32_at m ρ c b ⟨n.val / 1024, by omega⟩ ⟨n.val % 1024, by omega⟩
  simp only [tok_eq] at h
  exact h

/-- The sum over the 32 features is the sum over the sines plus the sum over the cosines. -/
theorem sum_feat (T : EReal) (w : Fin 32 → EReal) (s k : Fin 16 → EReal)
    (hs : ∀ q : Fin 16, w ⟨q.val, by omega⟩ = s q) (hk : ∀ q : Fin 16, w ⟨16 + q.val, by omega⟩ = k q) :
    ∑ q : Fin 32, w q * feat T q.val
      = (∑ q : Fin 16, Ideal.sin (T * harm V0 q) * s q) + ∑ q : Fin 16, Ideal.cos (T * harm V0 q) * k q := by
  refine (Fin.sum_univ_add (M := EReal) (a := 16) (b := 16) (fun q : Fin 32 => w q * feat T q.val)).trans ?_
  congr 1
  · refine Finset.sum_congr rfl fun q _ => ?_
    change w ⟨q.val, _⟩ * feat T q.val = _
    rw [hs, feat_sin V0, mul_comm]
  · refine Finset.sum_congr rfl fun q _ => ?_
    change w ⟨16 + q.val, _⟩ * feat T (16 + q.val) = _
    rw [hk, feat_cos V0, mul_comm]

variable (hX : argX V0 = m ((c : Thread nD τ).loc main_arg0)) (hT : argT V0 = m ((c : Thread nD τ).loc main_arg1))
variable (hM : argM V0 = m ((c : Thread nD τ).loc main_arg2)) (hL : argL V0 = m ((c : Thread nD τ).loc main_arg3))
variable (hA : argA V0 = m ((c : Thread nD τ).loc main_arg4)) (hB : argB V0 = m ((c : Thread nD τ).loc main_arg5))
variable (hW : argW V0 = m ((c : Thread nD τ).loc main_arg6)) (hV : argV V0 = m ((c : Thread nD τ).loc main_arg7))
variable (hv : Valid (argT V0) (argM V0))
include hX hT hM hL hA hB hW hV hv

/-- The modulated values. -/
theorem x_eq : W11 m ρ c main_v33 = Cert.ReferenceIdeal.Value.val4 V0 (Proc.devRef .tc Cert.ReferenceIdeal.main_v196) := by
  refine (W11_of m ρ c main_v33 (by decide)).trans ((W10_arr m ρ c 5).trans ((arr1_5 (V9 m ρ) c).trans ?_))
  funext i
  idx_vars i
  revert i0 i1 i2
  intro b n h
  refine Eq.trans ?_ (Cert.ReferenceIdeal.Gathers.x_at V0 b n h).symm
  have hp := (pos V0 b n).isLt
  change filmAt (V9 m ρ) c b n h = _
  unfold filmAt
  rw [out_at _ _ _ _ _ _ _ (pos V0 b n).val ((pos V0 b n).val / 2048) hp (by omega) rfl
    ((chunk_i m ρ c b n).trans (idx_at m ρ c V0 hT hM hv b n))]
  have et := (chunk_t m ρ c b n).trans (ts_at m ρ c V0 hT hM hv b n)
  have ex := (chunk_x m ρ c b n).trans (xs_at m ρ c V0 hT hM hv hX b n)
  rw [et, ex]
  rw [sum_feat V0 _ (fun q => (W9 m ρ c main_v24 : Vec Ideal S6x128x32 .f32) (ix3 (band (pos V0 b n)) (⟨h.val, by omega⟩ : Fin 128) q)) (fun q => argA V0 (ix3 (band (pos V0 b n)) q h)) (fun q => argW V0 (ix3 (band (pos V0 b n)) q h))
      (fun q => by rw [hA]; exact v24_ss m ρ c (band (pos V0 b n)) h q) (fun q => by rw [hW]; exact v24_sc m ρ c (band (pos V0 b n)) h q),
    sum_feat V0 _ (fun q => (W9 m ρ c main_v24 : Vec Ideal S6x128x32 .f32) (ix3 (band (pos V0 b n)) (⟨64 + h.val, by omega⟩ : Fin 128) q)) (fun q => argB V0 (ix3 (band (pos V0 b n)) q h)) (fun q => argV V0 (ix3 (band (pos V0 b n)) q h))
      (fun q => by rw [hB]; exact v24_bs m ρ c (band (pos V0 b n)) h q) (fun q => by rw [hV]; exact v24_bc m ρ c (band (pos V0 b n)) h q)]
  have el : (W9 m ρ c main_v29 : Vec Ideal S64x8 .f32) (ix2 h (⟨(pos V0 b n).val / 2048, by omega⟩ : Fin 8))
      = argL V0 (ix3 (band (pos V0 b n)) h (0 : Fin 1)) := by
    rw [hL]; exact v29_at m ρ c (band (pos V0 b n)) h
  unfold film
  rw [Fin.sum_univ_one]
  rw [← el]

/-- The sorted mask. -/
theorem m_eq : W11 m ρ c main_v34 = Cert.ReferenceIdeal.Value.val4 V0 (Proc.devRef .tc Cert.ReferenceIdeal.main_v197) := by
  funext i
  idx_vars i
  revert i0 i1 i2
  intro b n u
  obtain rfl : u = 0 := Subsingleton.elim _ _
  exact (v34_at m ρ c b n).trans ((ms_at m ρ c V0 hT hM hv b n).trans (Cert.ReferenceIdeal.Gathers.m_at V0 b n).symm)

/-- The sorted times. -/
theorem t_eq : W11 m ρ c main_v35 = Cert.ReferenceIdeal.Value.val4 V0 (Proc.devRef .tc Cert.ReferenceIdeal.main_v198) := by
  funext i
  idx_vars i
  revert i0 i1 i2
  intro b n u
  obtain rfl : u = 0 := Subsingleton.elim _ _
  exact (v35_at m ρ c b n).trans ((ts_at m ρ c V0 hT hM hv b n).trans (Cert.ReferenceIdeal.Gathers.t_at V0 b n).symm)

end Cert.Equal
-- ==== Proof.Results.lean ====
/-
  The kernel's run: it ends with each result at what the last host operations leave of it.
-/
module

public import proofs.«01_k».proof.Proof.Equal

@[expose] public section

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- Every run ends with the three results at the contents after the last host operation, the arguments unchanged. -/
theorem run : θ_run defs (onTc (τ := τ) (main (F := Ideal))) ⟨m, fun _ => 0, ρ⟩ (fun r => ∀ c : Dev nD,
      r.2.mem ((c.tc : Thread nD τ).loc main_v33) = W11 m ρ c main_v33
      ∧ r.2.mem ((c.tc : Thread nD τ).loc main_v34) = W11 m ρ c main_v34
      ∧ r.2.mem ((c.tc : Thread nD τ).loc main_v35) = W11 m ρ c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨h c _ (mem_uc main_v33 (by decide)),
       h c _ (mem_uc main_v34 (by decide)),
       h c _ (mem_uc main_v35 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Results
-- ==== Proof.Claims.lean ====
/-
  The claims, one by one.
-/
module

public import proofs.«01_k».proof.Proof.Results
public import proofs.«01_k».proof.Defs

@[expose] public section

set_option maxRecDepth 16384

noncomputable section

namespace Cert.Proof.Claims

open Idealize.ShloMosaic Idealize.ShloMosaic.TcCoe Idealize.SL.Sem

/-- The idealized kernel runs, whatever the arguments. -/
theorem frame_pi : Cert.quiescent_KernelIdeal := fun m ρ _ => Cert.KernelIdeal.Gen.frame m ρ

theorem frame_pi_pre : Cert.quiescent_KernelIdeal_pre_valid_times := fun m ρ _ => Cert.KernelIdeal.Gen.frame m ρ

/-- The reference runs, whatever the arguments. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ri_pre : Cert.quiescent_ReferenceIdeal_pre_valid_times := fun m ρ _ => frame_ri m ρ trivial

/-- The named base frequency has the value its name says. -/
theorem preserves : Cert.preserves_Kernel_KernelIdeal :=
  IdealRules.named_const.statement Cert.KernelIdeal.κ "base_frequency" .f32 0x3B89421E#32 (((2 * Real.pi) * 1500⁻¹ : ℝ) : EReal) rfl

/-- Kernel and reference end with equal results. -/
theorem algebraic : Cert.algebraic_KernelIdeal_ReferenceIdeal_pre_valid_times := by
  intro m ρ m' ρ' hpre hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨h0, h1, h2, h3, h4, h5, h6, h7⟩ := hagree c
  have hv : Cert.Valid.Valid (Cert.ReferenceIdeal.At.argT (StableHlo.launchContents m' c)) (Cert.ReferenceIdeal.At.argM (StableHlo.launchContents m' c)) := by
    have := Cert.Valid.of_pre _ _ _ _ _ _ _ _ (hpre c)
    rw [← h1, ← h2] at this
    exact this
  refine ⟨?_, ?_, ?_, (h c).2.2.2⟩
  · exact (h c).1.trans ((Cert.ReferenceIdeal.Value.val4_main_v196 _).symm.trans
      (Cert.Equal.x_eq m ρ c (StableHlo.launchContents m' c) h0 h1 h2 h3 h4 h5 h6 h7 hv).symm)
  · exact (h c).2.1.trans ((Cert.ReferenceIdeal.Value.val4_main_v197 _).symm.trans
      (Cert.Equal.m_eq m ρ c (StableHlo.launchContents m' c) h0 h1 h2 h3 h4 h5 h6 h7 hv).symm)
  · exact (h c).2.2.1.trans ((Cert.ReferenceIdeal.Value.val4_main_v198 _).symm.trans
      (Cert.Equal.t_eq m ρ c (StableHlo.launchContents m' c) h0 h1 h2 h3 h4 h5 h6 h7 hv).symm)

end Cert.Proof.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_valid_times
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_valid_times.Gen.facts,
  fun m ρ _ => Cert.Kernel.Gen.frame m ρ, Claims.frame_pi, Claims.frame_pi_pre, Claims.frame_ri, Claims.frame_ri_pre, Claims.preserves, Claims.algebraic⟩

end Cert.Proof

end
